-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "ca" .f32 0x3B808081#32 ((1 / 255 : ℝ) : EReal)
  ∧ IdealRules.named_const.Statement Cert.KernelIdeal.κ "za" .f32 0x3F008081#32 ((128 / 255 : ℝ) : EReal)

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg4 : FVec F S32x32 .f32) (main_arg5 : FVec F S32 .f32) (main_arg6 : FVec F S32x16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg6
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  main_v33

def fn {F : FTy → Type} [FloatOps F] (main_arg0 : FVec F S10000x128 .f32) (main_arg1 : FVec F S10000x10000 .f32) (main_arg2 : FVec F S128x32 .f32) (main_arg3 : FVec F S32 .f32) (main_arg4 : FVec F S32x32 .f32) (main_arg5 : FVec F S32 .f32) (main_arg6 : FVec F S32x16 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S1x32 : Shape := ⟨2, ![1, 32]⟩
abbrev S1x16 : Shape := ⟨2, ![1, 16]⟩
abbrev S10000x32 : Shape := ⟨2, ![10000, 32]⟩
abbrev S400x10000 : Shape := ⟨2, ![400, 10000]⟩
abbrev S400x32 : Shape := ⟨2, ![400, 32]⟩
abbrev S10000x16 : Shape := ⟨2, ![10000, 16]⟩
abbrev S400x16 : Shape := ⟨2, ![400, 16]⟩

abbrev nBuf : Space → Nat
  | .hbm => 20
  | .vmem => 37
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S1x32, .f32⟩
  | .hbm, ⟨9, _⟩ => ⟨S1x32, .f32⟩
  | .hbm, ⟨10, _⟩ => ⟨S1x16, .f32⟩
  | .hbm, ⟨11, _⟩ => ⟨S10000x32, .bf16⟩
  | .hbm, ⟨12, _⟩ => ⟨S1x32, .f32⟩
  | .hbm, ⟨13, _⟩ => ⟨S10000x10000, .i8⟩
  | .hbm, ⟨14, _⟩ => ⟨S10000x16, .f32⟩
  | .hbm, ⟨15, _⟩ => ⟨S10000x16, .bf16⟩
  | .hbm, ⟨16, _⟩ => ⟨S1x16, .f32⟩
  | .hbm, ⟨17, _⟩ => ⟨S10000x16, .f32⟩
  | .hbm, ⟨18, _⟩ => ⟨S10000x16, .bf16⟩
  | .hbm, ⟨19, _⟩ => ⟨S1x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x32, .f32⟩
  | .local _ .vmem, ⟨4, _⟩ => ⟨S1x32, .f32⟩
  | .local _ .vmem, ⟨5, _⟩ => ⟨S32x32, .f32⟩
  | .local _ .vmem, ⟨6, _⟩ => ⟨S400x32, .bf16⟩
  | .local _ .vmem, ⟨7, _⟩ => ⟨S400x32, .bf16⟩
  | .local _ .vmem, ⟨8, _⟩ => ⟨S1x32, .f32⟩
  | .local _ .vmem, ⟨9, _⟩ => ⟨S400x10000, .i8⟩
  | .local _ .vmem, ⟨10, _⟩ => ⟨S400x10000, .i8⟩
  | .local _ .vmem, ⟨11, _⟩ => ⟨S10000x32, .f32⟩
  | .local _ .vmem, ⟨12, _⟩ => ⟨S1x32, .f32⟩
  | .local _ .vmem, ⟨13, _⟩ => ⟨S400x10000, .i8⟩
  | .local _ .vmem, ⟨14, _⟩ => ⟨S400x10000, .i8⟩
  | .local _ .vmem, ⟨15, _⟩ => ⟨S10000x32, .bf16⟩
  | .local _ .vmem, ⟨16, _⟩ => ⟨S1x32, .f32⟩
  | .local _ .vmem, ⟨17, _⟩ => ⟨S32x16, .f32⟩
  | .local _ .vmem, ⟨18, _⟩ => ⟨S1x32, .f32⟩
  | .local _ .vmem, ⟨19, _⟩ => ⟨S400x16, .f32⟩
  | .local _ .vmem, ⟨20, _⟩ => ⟨S400x16, .f32⟩
  | .local _ .vmem, ⟨21, _⟩ => ⟨S400x16, .bf16⟩
  | .local _ .vmem, ⟨22, _⟩ => ⟨S400x16, .bf16⟩
  | .local _ .vmem, ⟨23, _⟩ => ⟨S1x16, .f32⟩
  | .local _ .vmem, ⟨24, _⟩ => ⟨S1x16, .f32⟩
  | .local _ .vmem, ⟨25, _⟩ => ⟨S400x10000, .i8⟩
  | .local _ .vmem, ⟨26, _⟩ => ⟨S400x10000, .i8⟩
  | .local _ .vmem, ⟨27, _⟩ => ⟨S10000x16, .bf16⟩
  | .local _ .vmem, ⟨28, _⟩ => ⟨S1x16, .f32⟩
  | .local _ .vmem, ⟨29, _⟩ => ⟨S32x16, .f32⟩
  | .local _ .vmem, ⟨30, _⟩ => ⟨S1x16, .f32⟩
  | .local _ .vmem, ⟨31, _⟩ => ⟨S400x16, .f32⟩
  | .local _ .vmem, ⟨32, _⟩ => ⟨S400x16, .f32⟩
  | .local _ .vmem, ⟨33, _⟩ => ⟨S400x16, .bf16⟩
  | .local _ .vmem, ⟨34, _⟩ => ⟨S400x16, .bf16⟩
  | .local _ .vmem, ⟨35, _⟩ => ⟨S1x16, .f32⟩
  | .local _ .vmem, ⟨36, _⟩ => ⟨S1x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_scratch0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_scratch0 : Ref sig .tc := ⟨.vmem, 36, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v30 : BitVec 1 := Scalar.cmpi .eq arg0 c24_i32
  let v31 : BitVec 32 := Scalar.extui v30
  let c0_i32_21 : BitVec 32 := 0#32
  let v32 : BitVec 1 := Scalar.cmpi .ne v31 c0_i32_21
  v32

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x10000 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v34 : BitVec 1 := Scalar.cmpi .eq arg0 c24_i32
  let v35 : BitVec 32 := Scalar.extui v34
  let c0_i32_23 : BitVec 32 := 0#32
  let v36 : BitVec 1 := Scalar.cmpi .ne v35 c0_i32_23
  v36

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x10000 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x16 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v30 : BitVec 1 := Scalar.cmpi .eq arg0 c24_i32
  let v31 : BitVec 32 := Scalar.extui v30
  let c0_i32_19 : BitVec 32 := 0#32
  let v32 : BitVec 1 := Scalar.cmpi .ne v31 c0_i32_19
  v32

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S400x10000 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S400x16 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]
-- ==== KernelIdeal.lean ====
variable {F : FTy → Type} [FloatOps F] [Named F]
def κ : String → Option EReal := fun
  | "ca" => some ((1 / 255 : ℝ) : EReal)
  | "za" => some ((128 / 255 : ℝ) : EReal)
  | _ => none
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩
abbrev S10000x32 : Shape := ⟨2, ![10000, 32]⟩
abbrev S1x32 : Shape := ⟨2, ![1, 32]⟩
abbrev S10000x16 : Shape := ⟨2, ![10000, 16]⟩
abbrev S1x16 : Shape := ⟨2, ![1, 16]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S_, .f32⟩
  | .hbm, ⟨9, _⟩ => ⟨S10000x10000, .f32⟩
  | .hbm, ⟨10, _⟩ => ⟨S10000x10000, .f32⟩
  | .hbm, ⟨11, _⟩ => ⟨S10000x10000, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S10000x10000, .f32⟩
  | .hbm, ⟨16, _⟩ => ⟨S10000x10000, .f32⟩
  | .hbm, ⟨17, _⟩ => ⟨S_, .f32⟩
  | .hbm, ⟨18, _⟩ => ⟨S10000x10000, .f32⟩
  | .hbm, ⟨19, _⟩ => ⟨S10000x10000, .f32⟩
  | .hbm, ⟨20, _⟩ => ⟨S_, .f32⟩
  | .hbm, ⟨21, _⟩ => ⟨S10000x10000, .f32⟩
  | .hbm, ⟨22, _⟩ => ⟨S10000x10000, .f32⟩
  | .hbm, ⟨23, _⟩ => ⟨S10000x32, .f32⟩
  | .hbm, ⟨24, _⟩ => ⟨S10000x32, .f32⟩
  | .hbm, ⟨25, _⟩ => ⟨S1x32, .f32⟩
  | .hbm, ⟨26, _⟩ => ⟨S10000x32, .f32⟩
  | .hbm, ⟨27, _⟩ => ⟨S10000x32, .f32⟩
  | .hbm, ⟨28, _⟩ => ⟨S_, .f32⟩
  | .hbm, ⟨29, _⟩ => ⟨S10000x32, .f32⟩
  | .hbm, ⟨30, _⟩ => ⟨S10000x32, .f32⟩
  | .hbm, ⟨31, _⟩ => ⟨S10000x32, .f32⟩
  | .hbm, ⟨32, _⟩ => ⟨S10000x32, .f32⟩
  | .hbm, ⟨33, _⟩ => ⟨S1x32, .f32⟩
  | .hbm, ⟨34, _⟩ => ⟨S10000x32, .f32⟩
  | .hbm, ⟨35, _⟩ => ⟨S10000x32, .f32⟩
  | .hbm, ⟨36, _⟩ => ⟨S_, .f32⟩
  | .hbm, ⟨37, _⟩ => ⟨S10000x32, .f32⟩
  | .hbm, ⟨38, _⟩ => ⟨S10000x32, .f32⟩
  | .hbm, ⟨39, _⟩ => ⟨S10000x16, .f32⟩
  | .hbm, ⟨40, _⟩ => ⟨S10000x16, .f32⟩
  | .hbm, ⟨41, _⟩ => ⟨S1x16, .f32⟩
  | .hbm, ⟨42, _⟩ => ⟨S10000x16, .f32⟩
  | .hbm, ⟨43, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_cst_1 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v3 : Ref sig .tc := ⟨.hbm, 19, rfl⟩
abbrev main_cst_2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Proof.IdealBody0.lean ====
/- The first call's body, one grid point at a time: what each of its three cases (the first point, a middle point,
   the last point) leaves in its output blocks and in its two scratch buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The offsets every load and store of the kernel uses, as the zero function. -/
theorem zeros2 : (![0, 0] : Fin 2 → Nat) = fun _ => 0 := by funext a; fin_cases a <;> rfl

/-- A buffer whose last store covered it whole holds that store's payload. -/
theorem read_whole_store {κ : Kind} {sp : Space} {S : Shape} {e : EltTy} (v : View sig κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A whole buffer at known contents, loaded whole, gives those contents. -/
theorem load_whole {sp : Space} {S : Shape} {e : EltTy} {M : Memref sig .tc sp S e} (hM : M.IsWhole)
    {off : Fin S.rank → Nat} (h : off = fun _ => 0) (inb : ∀ a, off a + S.size a ≤ S.size a) (x : S.Idx → Elt F e) :
    View.readAt (Elt F) M.view (Rect.unit off S.size inb).toLoadRect (hM.unread x) = x := by
  rw [View.readAt_eq_ld, hM.read_unread, View.ld_unit_zero h]

/-- The body's first branch is taken where the grid coordinate is zero. -/
abbrev isFirst0 (i : grid0.Coords) : Prop :=
  (Scalar.cmpi .ne (Scalar.extui (Scalar.cmpi .eq (BitVec.ofNat 32 (i 0).val) 0#32)) 0#32) = 1#1
/-- Its second where the coordinate is the last. -/
abbrev isLast0 (i : grid0.Coords) : Prop := k0_cond2 i = 1#1

section Runs

variable (c : Dev nD) (i : grid0.Coords)
  (arg1 : Memref sig .tc .vmem S10000x128 .f32) (harg1 : arg1.IsWhole)
  (arg2 : Memref sig .tc .vmem S400x10000 .f32) (harg2 : arg2.IsWhole)
  (arg3 : Memref sig .tc .vmem S128x32 .f32) (harg3 : arg3.IsWhole)
  (arg4 : Memref sig .tc .vmem S1x32 .f32) (harg4 : arg4.IsWhole)
  (arg5 : Memref sig .tc .vmem S32x32 .f32) (harg5 : arg5.IsWhole)
  (arg6 : Memref sig .tc .vmem S400x32 .bf16) (harg6 : arg6.IsWhole)
  (arg7 : Memref sig .tc .vmem S1x32 .f32) (harg7 : arg7.IsWhole)
  (arg8 : Memref sig .tc .vmem S400x10000 .i8) (harg8 : arg8.IsWhole)
  (arg9 : Memref sig .tc .vmem S10000x32 .f32) (harg9 : arg9.IsWhole)
  (arg10 : Memref sig .tc .vmem S1x32 .f32) (harg10 : arg10.IsWhole)
  (x0 : Vec F S10000x128 .f32) (x1 : Vec F S400x10000 .f32) (x2 : Vec F S128x32 .f32) (x3 : Vec F S1x32 .f32)
  (x4 : Vec F S32x32 .f32)

/-- The five inputs' blocks, each owned whole. -/
abbrev ins0 : sProp 𝕄 :=
  iprop(owns (c : Thread nD τ) arg1 fullShare x0 ∗ owns (c : Thread nD τ) arg2 fullShare x1
    ∗ owns (c : Thread nD τ) arg3 fullShare x2 ∗ owns (c : Thread nD τ) arg4 fullShare x3
    ∗ owns (c : Thread nD τ) arg5 fullShare x4)

set_option maxHeartbeats 1000000 in
/-- THE FIRST POINT: the scratch `x@W1` is filled, the running column sum starts from zero. -/
theorem body0_first (hc0 : isFirst0 i) (hc1 : ¬isLast0 i) (o7 : Vec F S1x32 .f32) (E : Set ℕ) (K : PUnit → sProp 𝕄) :
    iprop(ins0 c arg1 arg2 arg3 arg4 arg5 x0 x1 x2 x3 x4
        ∗ (∃ d, owns (c : Thread nD τ) arg6 fullShare d) ∗ owns (c : Thread nD τ) arg7 fullShare o7
        ∗ (∃ d, owns (c : Thread nD τ) arg8 fullShare d) ∗ (∃ d, owns (c : Thread nD τ) arg9 fullShare d)
        ∗ (∃ d, owns (c : Thread nD τ) arg10 fullShare d)
        ∗ (iprop(ins0 c arg1 arg2 arg3 arg4 arg5 x0 x1 x2 x3 x4
            ∗ owns (c : Thread nD τ) arg6 fullShare (k0_pay5 x1 (k0_pay1 x0 x2) x3 x4)
            ∗ owns (c : Thread nD τ) arg7 fullShare o7
            ∗ owns (c : Thread nD τ) arg8 fullShare (k0_pay3 x1)
            ∗ owns (c : Thread nD τ) arg9 fullShare (k0_pay1 x0 x2)
            ∗ owns (c : Thread nD τ) arg10 fullShare (k0_pay6 x1 (k0_pay1 x0 x2) x3 x4 (k0_pay2 (F := F)))) -∗ K ⟨⟩))
      ⊢ wp frame (wpE (defs₀ (F := F)) Variants.none c none) E
          (cc0__layer1_quant_kernel i arg1 harg1 arg2 harg2 arg3 harg3 arg4 harg4 arg5 harg5 arg6 harg6 arg7 harg7
            arg8 harg8 arg9 harg9 arg10 harg10) K := by
  simp only [cc0__layer1_quant_kernel_eq_skeleton]; unfold cc0__layer1_quant_kernel_skel
  simp only [k0_part1_eq_skeleton]
  unfold ins0 owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨%d7, %f7, -, H7⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf6
  sl_exec (disch := first | sl_exact hc0 | sl_exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr; swap; · iexact H5
    ipureintro; sl_unfold_words; rw [read_whole_store _ _ zeros2]
    rw [load_whole harg2 zeros2, load_whole harg4 zeros2, load_whole harg5 zeros2, View.readCov_unit_zero _ zeros2,
      load_whole harg1 zeros2, load_whole harg3 zeros2]
  isplitl [H6]
  · iexists _; isplitr; · ipureintro; exact harg7.read_unread _
    iexact H6
  isplitl [H7]
  · iexists _; isplitr; swap; · iexact H7
    ipureintro; sl_unfold_words; rw [read_whole_store _ _ zeros2, load_whole harg2 zeros2]
  isplitl [HS0]
  · iexists _; isplitr; swap; · iexact HS0
    ipureintro; sl_unfold_words
    rw [read_whole_store _ _ zeros2, load_whole harg1 zeros2, load_whole harg3 zeros2]
  iexists _; isplitr; swap; · iexact HS1
  ipureintro; sl_unfold_words; rw [read_whole_store _ _ zeros2]
  rw [load_whole harg2 zeros2, load_whole harg4 zeros2, load_whole harg5 zeros2, View.readCov_unit_zero _ zeros2,
    View.readCov_unit_zero _ zeros2, load_whole harg1 zeros2, load_whole harg3 zeros2]

set_option maxHeartbeats 1000000 in
/-- A MIDDLE POINT: the scratch is read, the running column sum grows by this block's. -/
theorem body0_middle (hc0 : ¬isFirst0 i) (hc1 : ¬isLast0 i) (s : Vec F S10000x32 .f32) (a : Vec F S1x32 .f32)
    (o7 : Vec F S1x32 .f32)
    (E : Set ℕ) (K : PUnit → sProp 𝕄) :
    iprop(ins0 c arg1 arg2 arg3 arg4 arg5 x0 x1 x2 x3 x4
        ∗ (∃ d, owns (c : Thread nD τ) arg6 fullShare d) ∗ owns (c : Thread nD τ) arg7 fullShare o7
        ∗ (∃ d, owns (c : Thread nD τ) arg8 fullShare d) ∗ owns (c : Thread nD τ) arg9 fullShare s
        ∗ owns (c : Thread nD τ) arg10 fullShare a
        ∗ (iprop(ins0 c arg1 arg2 arg3 arg4 arg5 x0 x1 x2 x3 x4
            ∗ owns (c : Thread nD τ) arg6 fullShare (k0_pay5 x1 s x3 x4)
            ∗ owns (c : Thread nD τ) arg7 fullShare o7
            ∗ owns (c : Thread nD τ) arg8 fullShare (k0_pay3 x1)
            ∗ owns (c : Thread nD τ) arg9 fullShare s
            ∗ owns (c : Thread nD τ) arg10 fullShare (k0_pay6 x1 s x3 x4 a)) -∗ K ⟨⟩))
      ⊢ wp frame (wpE (defs₀ (F := F)) Variants.none c none) E
          (cc0__layer1_quant_kernel i arg1 harg1 arg2 harg2 arg3 harg3 arg4 harg4 arg5 harg5 arg6 harg6 arg7 harg7
            arg8 harg8 arg9 harg9 arg10 harg10) K := by
  simp only [cc0__layer1_quant_kernel_eq_skeleton]; unfold cc0__layer1_quant_kernel_skel
  simp only [k0_part1_eq_skeleton]
  unfold ins0 owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hfs0; obtain rfl := harg10.eq_unread hfs1
  obtain rfl := harg7.eq_unread hf6
  sl_exec (disch := first | sl_exact hc0 | sl_exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr; swap; · iexact H5
    ipureintro; sl_unfold_words; rw [read_whole_store _ _ zeros2]
    rw [load_whole harg2 zeros2, load_whole harg4 zeros2, load_whole harg5 zeros2, load_whole harg9 zeros2]
  isplitl [H6]
  · iexists _; isplitr; · ipureintro; exact harg7.read_unread _
    iexact H6
  isplitl [H7]
  · iexists _; isplitr; swap; · iexact H7
    ipureintro; sl_unfold_words; rw [read_whole_store _ _ zeros2, load_whole harg2 zeros2]
  isplitl [HS0]
  · iexists _; isplitr; · ipureintro; exact harg9.read_unread _
    iexact HS0
  iexists _; isplitr; swap; · iexact HS1
  ipureintro; sl_unfold_words; rw [read_whole_store _ _ zeros2]
  rw [load_whole harg2 zeros2, load_whole harg4 zeros2, load_whole harg5 zeros2, load_whole harg9 zeros2,
    load_whole harg10 zeros2]

set_option maxHeartbeats 1000000 in
/-- THE LAST POINT: as a middle point, and the running column sum is also the second result. -/
theorem body0_last (hc0 : ¬isFirst0 i) (hc1 : isLast0 i) (s : Vec F S10000x32 .f32) (a : Vec F S1x32 .f32)
    (E : Set ℕ) (K : PUnit → sProp 𝕄) :
    iprop(ins0 c arg1 arg2 arg3 arg4 arg5 x0 x1 x2 x3 x4
        ∗ (∃ d, owns (c : Thread nD τ) arg6 fullShare d) ∗ (∃ d, owns (c : Thread nD τ) arg7 fullShare d)
        ∗ (∃ d, owns (c : Thread nD τ) arg8 fullShare d) ∗ owns (c : Thread nD τ) arg9 fullShare s
        ∗ owns (c : Thread nD τ) arg10 fullShare a
        ∗ (iprop(ins0 c arg1 arg2 arg3 arg4 arg5 x0 x1 x2 x3 x4
            ∗ owns (c : Thread nD τ) arg6 fullShare (k0_pay5 x1 s x3 x4)
            ∗ owns (c : Thread nD τ) arg7 fullShare (k0_pay6 x1 s x3 x4 a)
            ∗ owns (c : Thread nD τ) arg8 fullShare (k0_pay3 x1)
            ∗ owns (c : Thread nD τ) arg9 fullShare s
            ∗ owns (c : Thread nD τ) arg10 fullShare (k0_pay6 x1 s x3 x4 a)) -∗ K ⟨⟩))
      ⊢ wp frame (wpE (defs₀ (F := F)) Variants.none c none) E
          (cc0__layer1_quant_kernel i arg1 harg1 arg2 harg2 arg3 harg3 arg4 harg4 arg5 harg5 arg6 harg6 arg7 harg7
            arg8 harg8 arg9 harg9 arg10 harg10) K := by
  simp only [cc0__layer1_quant_kernel_eq_skeleton]; unfold cc0__layer1_quant_kernel_skel
  simp only [k0_part1_eq_skeleton]
  unfold ins0 owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hfs0; obtain rfl := harg10.eq_unread hfs1
  sl_exec (disch := first | sl_exact hc0 | sl_exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr; swap; · iexact H5
    ipureintro; sl_unfold_words; rw [read_whole_store _ _ zeros2]
    rw [load_whole harg2 zeros2, load_whole harg4 zeros2, load_whole harg5 zeros2, load_whole harg9 zeros2]
  isplitl [H6]
  · iexists _; isplitr; swap; · iexact H6
    ipureintro; sl_unfold_words; rw [read_whole_store _ _ zeros2, View.readCov_unit_zero _ zeros2]
    rw [load_whole harg2 zeros2, load_whole harg4 zeros2, load_whole harg5 zeros2, load_whole harg9 zeros2,
      load_whole harg10 zeros2]
  isplitl [H7]
  · iexists _; isplitr; swap; · iexact H7
    ipureintro; sl_unfold_words; rw [read_whole_store _ _ zeros2, load_whole harg2 zeros2]
  isplitl [HS0]
  · iexists _; isplitr; · ipureintro; exact harg9.read_unread _
    iexact HS0
  iexists _; isplitr; swap; · iexact HS1
  ipureintro; sl_unfold_words; rw [read_whole_store _ _ zeros2]
  rw [load_whole harg2 zeros2, load_whole harg4 zeros2, load_whole harg5 zeros2, load_whole harg9 zeros2,
    load_whole harg10 zeros2]

end Runs

end Cert.KernelIdeal.Hand

end
-- ==== Proof.IdealRegion0.lean ====
/- The first call as a region of the program: from any contents of the arrays it reads, what each grid point leaves in
   the output blocks and in the scratch, and that the body does so at every point. -/
module

public import proofs.«01_k».proof.Proof.IdealBody0

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (W : Dev nD → Valuation τ sig (Elt F))

/-! ## Which points are first, middle and last -/

theorem isFirst0_iff : ∀ t : Fin cfg0.N, isFirst0 (grid0.coords t) ↔ t.val = 0 :=
  (fun t => by
    have ht : t.val < 25 := Nat.lt_of_lt_of_eq t.isLt N_0
    have e0 : (grid0.coords t 0).val = t.val / 1 % 25 := Pipeline.Grid.coords_val t 0 (by decide) rfl
    simp only [isFirst0, e0]
    word_cmp
   : ∀ t : Fin grid0.N, isFirst0 (grid0.coords t) ↔ t.val = 0)

theorem isLast0_iff : ∀ t : Fin cfg0.N, isLast0 (grid0.coords t) ↔ t.val = 24 :=
  (fun t => by
    have ht : t.val < 25 := Nat.lt_of_lt_of_eq t.isLt N_0
    have e0 : (grid0.coords t 0).val = t.val / 1 % 25 := Pipeline.Grid.coords_val t 0 (by decide) rfl
    simp only [isLast0, k0_cond2, e0]
    word_cmp
   : ∀ t : Fin grid0.N, isLast0 (grid0.coords t) ↔ t.val = 24)

/-- The column-sum block is left alone and not written back before the last point. -/
theorem idle0_sum : ∀ t : Fin cfg0.N, ¬isLast0 (grid0.coords t) → cfg0.idle 6 (grid0.coords t) = true := by
  decide +kernel
theorem noFlush0_sum : ∀ t : Fin cfg0.N, ¬isLast0 (grid0.coords t) → (cfg0.win 6).flush t = false := by
  decide +kernel
theorem live0_sum : ∀ t : Fin cfg0.N, isLast0 (grid0.coords t) → cfg0.idle 6 (grid0.coords t) = false := by
  decide +kernel

/-! ## The contents, point by point -/

/-- Window `w`'s block at point `t`, read off its array as the region finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (W c (Proc.devRef .tc (Pipeline.arrRef spec0 w)))

/-- The first grid point. -/
abbrev start0 : Fin cfg0.N := ⟨0, Nat.lt_of_lt_of_eq (by decide : 0 < 25) N_0.symm⟩

/-- The scratch `x@W1`, filled at the first point. -/
def proj0 (c : Dev nD) : Vec F S10000x32 .f32 := k0_pay1 (iblk0 W c 0 start0) (iblk0 W c 2 start0)

/-- The running column sum before point `n`. -/
def acc0 (c : Dev nD) : ℕ → Vec F S1x32 .f32
  | 0 => k0_pay2 (F := F)
  | n + 1 =>
    if h : n < cfg0.N then
      k0_pay6 (iblk0 W c 1 ⟨n, h⟩) (proj0 W c) (iblk0 W c 3 ⟨n, h⟩) (iblk0 W c 4 ⟨n, h⟩) (acc0 c n)
    else acc0 c n

theorem acc0_succ (c : Dev nD) (t : Fin cfg0.N) :
    acc0 W c (t.val + 1) = k0_pay6 (iblk0 W c 1 t) (proj0 W c) (iblk0 W c 3 t) (iblk0 W c 4 t) (acc0 W c t.val) :=
  dif_pos t.isLt

/-- The scratch operands, as whole buffers. -/
abbrev proj0M : Memref sig .tc .vmem S10000x32 .f32 := Memref.whole cc0_scratch0
abbrev acc0M : Memref sig .tc .vmem S1x32 .f32 := Memref.whole cc0_scratch1

/-- Everything scoped beside the region's windows and its scratch. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- What is held between points: at the start the scratch at anything, afterwards at the named contents. -/
def inv0 (c : Dev nD) : ℕ → sProp 𝕄
  | 0 => Pipeline.ΦA spec0 c
  | n + 1 => iprop(((owns (c : Thread nD τ) proj0M fullShare (proj0 W c)
      ∗ owns (c : Thread nD τ) acc0M fullShare (acc0 W c (n + 1))) ∗ rest0 c) ∗ (∃ r, prngReg c r))

theorem inv0_pos (c : Dev nD) {n : ℕ} (h : n ≠ 0) :
    inv0 W c n = iprop(((owns (c : Thread nD τ) proj0M fullShare (proj0 W c)
      ∗ owns (c : Thread nD τ) acc0M fullShare (acc0 W c n)) ∗ rest0 c) ∗ (∃ r, prngReg c r)) := by
  cases n with
  | zero => exact absurd rfl h
  | succ n => rfl

/-- The state at the start, with the scratch as owned buffers. -/
theorem start0_eq (c : Dev nD) :
    (Pipeline.ΦA spec0 c : sProp 𝕄)
      = iprop((((∃ d, owns (c : Thread nD τ) proj0M fullShare d) ∗ (∃ d, owns (c : Thread nD τ) acc0M fullShare d))
          ∗ rest0 c) ∗ (∃ r, prngReg c r)) := by
  unfold Pipeline.ΦA; rw [scopedRest0_split]; simp only [proj0M, acc0M, owns_whole]; try rfl

/-- The region's data: the arrays as found, what each point leaves in each block, the state between points. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => iblk0 W c 4 t
    | ⟨5, _⟩ => k0_pay5 (iblk0 W c 1 t) (proj0 W c) (iblk0 W c 3 t) (iblk0 W c 4 t)
    | ⟨6, _⟩ => acc0 W c (t.val + 1)
    | ⟨7, _⟩ => k0_pay3 (iblk0 W c 1 t)
  Φ t := inv0 W c t.val
  q _ := fullShare
  owed _ := 0

theorem dat0_A (c : Dev nD) (w : Fin cfg0.W) :
    (dat0 W c).A w = W c (Proc.devRef .tc (Pipeline.arrRef spec0 w)) := by dsimp only [dat0]

theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = iblk0 W c 3 t := by dsimp only [dat0]
theorem after0_4 (c : Dev nD) (t : Fin cfg0.N) : (dat0 W c).after 4 t = iblk0 W c 4 t := by dsimp only [dat0]
theorem after0_5 (c : Dev nD) (t : Fin cfg0.N) :
    (dat0 W c).after 5 t = k0_pay5 (iblk0 W c 1 t) (proj0 W c) (iblk0 W c 3 t) (iblk0 W c 4 t) := by dsimp only [dat0]
theorem after0_6 (c : Dev nD) (t : Fin cfg0.N) : (dat0 W c).after 6 t = acc0 W c (t.val + 1) := by dsimp only [dat0]
theorem after0_7 (c : Dev nD) (t : Fin cfg0.N) : (dat0 W c).after 7 t = k0_pay3 (iblk0 W c 1 t) := by dsimp only [dat0]

/-! Each input block is found in place, whether fetched at the point or not. -/

theorem before0_0 (c : Dev nD) (t : Fin cfg0.N) (d) : (dat0 W c).before 0 t d = iblk0 W c 0 t :=
  ((dat0 W c).before_in_eq_fetched 0 rfl (fun _ => rfl) (fun _ _ _ => rfl)
    (fun t => by rw [after0_0]; unfold Dat.blockOf iblk0; rw [dat0_A]; try rfl) t d).trans
    (by unfold Dat.fetched Dat.blockOf iblk0; rw [dat0_A]; try rfl)
theorem before0_1 (c : Dev nD) (t : Fin cfg0.N) (d) : (dat0 W c).before 1 t d = iblk0 W c 1 t :=
  ((dat0 W c).before_in_eq_fetched 1 rfl (fun _ => rfl) (fun _ _ _ => rfl)
    (fun t => by rw [after0_1]; unfold Dat.blockOf iblk0; rw [dat0_A]; try rfl) t d).trans
    (by unfold Dat.fetched Dat.blockOf iblk0; rw [dat0_A]; try rfl)
theorem before0_2 (c : Dev nD) (t : Fin cfg0.N) (d) : (dat0 W c).before 2 t d = iblk0 W c 2 t :=
  ((dat0 W c).before_in_eq_fetched 2 rfl (fun _ => rfl) (fun _ _ _ => rfl)
    (fun t => by rw [after0_2]; unfold Dat.blockOf iblk0; rw [dat0_A]; try rfl) t d).trans
    (by unfold Dat.fetched Dat.blockOf iblk0; rw [dat0_A]; try rfl)
theorem before0_3 (c : Dev nD) (t : Fin cfg0.N) (d) : (dat0 W c).before 3 t d = iblk0 W c 3 t :=
  ((dat0 W c).before_in_eq_fetched 3 rfl (fun _ => rfl) (fun _ _ _ => rfl)
    (fun t => by rw [after0_3]; unfold Dat.blockOf iblk0; rw [dat0_A]; try rfl) t d).trans
    (by unfold Dat.fetched Dat.blockOf iblk0; rw [dat0_A]; try rfl)
theorem before0_4 (c : Dev nD) (t : Fin cfg0.N) (d) : (dat0 W c).before 4 t d = iblk0 W c 4 t :=
  ((dat0 W c).before_in_eq_fetched 4 rfl (fun _ => rfl) (fun _ _ _ => rfl)
    (fun t => by rw [after0_4]; unfold Dat.blockOf iblk0; rw [dat0_A]; try rfl) t d).trans
    (by unfold Dat.fetched Dat.blockOf iblk0; rw [dat0_A]; try rfl)

/-! ## The body at every point -/

/-- Each block's current buffer at point `t`. -/
abbrev stg0 (t : Fin cfg0.N) (w : Fin cfg0.W) := (cfg0.win w).stage (cfg0.slots t w)

/-- A block that is never idle is left at the data's contents. -/
theorem leaves0 (c : Dev nD) (w : Fin cfg0.W) (t : Fin cfg0.N) (h : cfg0.idle w (grid0.coords t) = false) :
    (dat0 W c).leavesExact w t = owns (c : Thread nD τ) (stg0 t w) fullShare ((dat0 W c).after w t) := by
  unfold Dat.leavesExact; rw [h]

/-- What the body is called with at point `t`, -/
def pre0 (c : Dev nD) (t : Fin cfg0.N) : sProp 𝕄 :=
  iprop((dat0 W c).Φ t.castSucc ∗ (dat0 W c).owesAt () t.castSucc
    ∗ (∃ d, owns (c : Thread nD τ) (stg0 t 0) fullShare ((dat0 W c).before 0 t d))
    ∗ (∃ d, owns (c : Thread nD τ) (stg0 t 1) fullShare ((dat0 W c).before 1 t d))
    ∗ (∃ d, owns (c : Thread nD τ) (stg0 t 2) fullShare ((dat0 W c).before 2 t d))
    ∗ (∃ d, owns (c : Thread nD τ) (stg0 t 3) fullShare ((dat0 W c).before 3 t d))
    ∗ (∃ d, owns (c : Thread nD τ) (stg0 t 4) fullShare ((dat0 W c).before 4 t d))
    ∗ (∃ d, owns (c : Thread nD τ) (stg0 t 5) fullShare ((dat0 W c).before 5 t d))
    ∗ (∃ d, owns (c : Thread nD τ) (stg0 t 6) fullShare ((dat0 W c).before 6 t d))
    ∗ (∃ d, owns (c : Thread nD τ) (stg0 t 7) fullShare ((dat0 W c).before 7 t d)))

/-- and what it returns. -/
def post0 (c : Dev nD) (t : Fin cfg0.N) : sProp 𝕄 :=
  iprop((dat0 W c).Φ t.succ ∗ (dat0 W c).owesAt () t.succ
    ∗ (dat0 W c).leavesExact 0 t ∗ (dat0 W c).leavesExact 1 t ∗ (dat0 W c).leavesExact 2 t
    ∗ (dat0 W c).leavesExact 3 t ∗ (dat0 W c).leavesExact 4 t ∗ (dat0 W c).leavesExact 5 t
    ∗ (dat0 W c).leavesExact 6 t ∗ (dat0 W c).leavesExact 7 t)

set_option maxHeartbeats 4000000 in
/-- The body at any point, by the three cases. -/
theorem point0 (c : Dev nD) (t : Fin cfg0.N) :
    pre0 W c t ⊢ wp frame (wpE (defs₀ (F := F)) Variants.none c none) Set.univ (bodyAt0 t) (fun _ => post0 W c t) := by
  unfold pre0 post0 bodyAt0
  simp only [before0_0, before0_1, before0_2, before0_3, before0_4]
  rw [show (dat0 W c).owesAt () t.succ = (dat0 W c).owesAt () t.castSucc from rfl]
  rw [show (dat0 W c).Φ t.succ = inv0 W c (t.val + 1) from rfl, inv0_pos W c (Nat.succ_ne_zero _),
    show (dat0 W c).Φ t.castSucc = inv0 W c t.val from rfl]
  have hN : t.val < 25 := lt_of_lt_of_eq t.isLt (show cfg0.N = 25 from N_0)
  rw [leaves0 W c 0 t rfl, after0_0, leaves0 W c 1 t rfl, after0_1, leaves0 W c 2 t rfl, after0_2,
    leaves0 W c 3 t rfl, after0_3, leaves0 W c 4 t rfl, after0_4, leaves0 W c 5 t rfl, after0_5,
    leaves0 W c 7 t rfl, after0_7, acc0_succ]
  by_cases h0 : t.val = 0
  · have h1 : ¬isLast0 (grid0.coords t) := fun h => by have := (isLast0_iff t).mp h; omega
    obtain rfl : t = start0 := Fin.ext h0
    rw [Dat.leavesExact_idle (dat0 W c) 6 _ (idle0_sum _ h1) (noFlush0_sum _ h1)]
    rw [show inv0 W c (start0 : Fin cfg0.N).val = Pipeline.ΦA spec0 c from rfl, start0_eq,
      show acc0 W c (start0 : Fin cfg0.N).val = k0_pay2 (F := F) from rfl]
    unfold proj0
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body0_first c (grid0.coords start0) _ _ _ _ _ _ _ _ _ _ _ _ _ _ _ _ _ (Memref.isWhole_whole _) _ (Memref.isWhole_whole _)
      (iblk0 W c 0 start0) (iblk0 W c 1 start0) (iblk0 W c 2 start0) (iblk0 W c 3 start0) (iblk0 W c 4 start0)
      ((isFirst0_iff start0).mpr rfl) h1 _ Set.univ _)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexact H6
    isplitl [H7]; · iexists _; iexact H7
    isplitl [HS0]; · iexact HS0
    isplitl [HS1]; · iexact HS1
    iintro ⟨⟨H0, H1, H2, H3, H4⟩, H5, H6, H7, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexact H7
  · have hf : ¬isFirst0 (grid0.coords t) := fun h => h0 ((isFirst0_iff t).mp h)
    rw [inv0_pos W c h0]
    by_cases h1 : isLast0 (grid0.coords t)
    · rw [leaves0 W c 6 t (live0_sum t h1), after0_6, acc0_succ]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body0_last c (grid0.coords t) _ _ _ _ _ _ _ _ _ _ _ _ _ _ _ _ _ (Memref.isWhole_whole _) _ (Memref.isWhole_whole _)
        (iblk0 W c 0 t) (iblk0 W c 1 t) (iblk0 W c 2 t) (iblk0 W c 3 t) (iblk0 W c 4 t) hf h1 _ _ Set.univ _)
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [H6]; · iexists _; iexact H6
      isplitl [H7]; · iexists _; iexact H7
      isplitl [HS0]; · iexact HS0
      isplitl [HS1]; · iexact HS1
      iintro ⟨⟨H0, H1, H2, H3, H4⟩, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat0 W c) 6 t (idle0_sum t h1) (noFlush0_sum t h1)]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body0_middle c (grid0.coords t) _ _ _ _ _ _ _ _ _ _ _ _ _ _ _ _ _ (Memref.isWhole_whole _) _ (Memref.isWhole_whole _)
        (iblk0 W c 0 t) (iblk0 W c 1 t) (iblk0 W c 2 t) (iblk0 W c 3 t) (iblk0 W c 4 t) hf h1 _ _ _ Set.univ _)
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [H6]; · iexact H6
      isplitl [H7]; · iexists _; iexact H7
      isplitl [HS0]; · iexact HS0
      isplitl [HS1]; · iexact HS1
      iintro ⟨⟨H0, H1, H2, H3, H4⟩, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexact H7

theorem row0 (t : Fin cfg0.N) : defs₀ (F := F) .tc cfg0.body (cfg0.bodyArgs t (cfg0.slots t)) = bodyAt0 t := by
  unfold defs₀; rw [Defs.onTc_tc]

/-- The body does what the data says at every point. -/
theorem obligation0 (c : Dev nD) : BodyObligation (dat0 (F := F) W c) (defs₀ (F := F)) Variants.none () Set.univ :=
  fun t => by
    rw [bigSep_W0, bigSep_W0, row0]
    exact triple_restated (point0 W c t) rfl .rfl fun _ => .rfl

/-- What the region is entered with is the state before the first point, -/
theorem enter0 (c : Dev nD) : Pipeline.ΦA spec0 c ⊢ (dat0 W c).Φ 0 := by
  rw [show (dat0 W c).Φ 0 = Pipeline.ΦA spec0 c from rfl]

/-- and the state after the last point gives it back. -/
theorem leave0 (c : Dev nD) : (dat0 W c).Φ (Fin.last cfg0.N) ⊢ Pipeline.ΦA spec0 c := by
  rw [show (dat0 W c).Φ (Fin.last cfg0.N) = inv0 W c (Fin.last cfg0.N).val from rfl,
    inv0_pos W c (by rw [Fin.val_last]; have : cfg0.N = 25 := N_0; omega), start0_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

end Cert.KernelIdeal.Hand

end
-- ==== Proof.IdealBody1.lean ====
/- The second call's body, one grid point at a time: what each of its three cases (the first point, a middle point,
   the last point) leaves in its output blocks and in its scratch buffer. -/
module

public import proofs.«01_k».proof.Proof.IdealBody0

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The body's first branch is taken where the grid coordinate is zero. -/
abbrev isFirst1 (i : grid1.Coords) : Prop :=
  (Scalar.cmpi .ne (Scalar.extui (Scalar.cmpi .eq (BitVec.ofNat 32 (i 0).val) 0#32)) 0#32) = 1#1
/-- Its second where the coordinate is the last. -/
abbrev isLast1 (i : grid1.Coords) : Prop := k1_cond2 i = 1#1

section Runs

variable (c : Dev nD) (i : grid1.Coords)
  (arg1 : Memref sig .tc .vmem S400x10000 .i8) (harg1 : arg1.IsWhole)
  (arg2 : Memref sig .tc .vmem S10000x32 .bf16) (harg2 : arg2.IsWhole)
  (arg3 : Memref sig .tc .vmem S1x32 .f32) (harg3 : arg3.IsWhole)
  (arg4 : Memref sig .tc .vmem S32x16 .f32) (harg4 : arg4.IsWhole)
  (arg5 : Memref sig .tc .vmem S1x32 .f32) (harg5 : arg5.IsWhole)
  (arg6 : Memref sig .tc .vmem S400x16 .f32) (harg6 : arg6.IsWhole)
  (arg7 : Memref sig .tc .vmem S400x16 .bf16) (harg7 : arg7.IsWhole)
  (arg8 : Memref sig .tc .vmem S1x16 .f32) (harg8 : arg8.IsWhole)
  (arg9 : Memref sig .tc .vmem S1x16 .f32) (harg9 : arg9.IsWhole)
  (x0 : Vec F S400x10000 .i8) (x1 : Vec F S10000x32 .bf16) (x2 : Vec F S1x32 .f32) (x3 : Vec F S32x16 .f32)
  (x4 : Vec F S1x32 .f32)

/-- The five inputs' blocks, each owned whole. -/
abbrev ins1 : sProp 𝕄 :=
  iprop(owns (c : Thread nD τ) arg1 fullShare x0 ∗ owns (c : Thread nD τ) arg2 fullShare x1
    ∗ owns (c : Thread nD τ) arg3 fullShare x2 ∗ owns (c : Thread nD τ) arg4 fullShare x3
    ∗ owns (c : Thread nD τ) arg5 fullShare x4)

set_option maxHeartbeats 1000000 in
/-- THE FIRST POINT: the running column sum starts from zero. -/
theorem body1_first (hc0 : isFirst1 i) (hc1 : ¬isLast1 i) (o8 : Vec F S1x16 .f32)
    (E : Set ℕ) (K : PUnit → sProp 𝕄) :
    iprop(ins1 c arg1 arg2 arg3 arg4 arg5 x0 x1 x2 x3 x4
        ∗ (∃ d, owns (c : Thread nD τ) arg6 fullShare d) ∗ (∃ d, owns (c : Thread nD τ) arg7 fullShare d)
        ∗ owns (c : Thread nD τ) arg8 fullShare o8 ∗ (∃ d, owns (c : Thread nD τ) arg9 fullShare d)
        ∗ (iprop(ins1 c arg1 arg2 arg3 arg4 arg5 x0 x1 x2 x3 x4
            ∗ owns (c : Thread nD τ) arg6 fullShare (k1_pay3 x0 x1 x2 x4 x3)
            ∗ owns (c : Thread nD τ) arg7 fullShare (k1_pay4 x0 x1 x2 x4 x3)
            ∗ owns (c : Thread nD τ) arg8 fullShare o8
            ∗ owns (c : Thread nD τ) arg9 fullShare (k1_pay1 (k1_pay5 x0 x1 x2 x4 x3 (k1_pay2 (F := F))))) -∗ K ⟨⟩))
      ⊢ wp frame (wpE (defs₀ (F := F)) Variants.none c none) E
          (cc1__quant_layer_kernel i arg1 harg1 arg2 harg2 arg3 harg3 arg4 harg4 arg5 harg5 arg6 harg6 arg7 harg7
            arg8 harg8 arg9 harg9) K := by
  simp only [cc1__quant_layer_kernel_eq_skeleton]; unfold cc1__quant_layer_kernel_skel
  simp only [k1_part1_eq_skeleton]
  unfold ins1 owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%f7, %hf7, H7⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4
  obtain rfl := harg8.eq_unread hf7
  sl_exec (disch := first | sl_exact hc0 | sl_exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr; swap; · iexact H5
    ipureintro; sl_unfold_words; rw [read_whole_store _ _ zeros2]
    rw [load_whole harg1 zeros2, load_whole harg2 zeros2, load_whole harg3 zeros2, load_whole harg5 zeros2,
      load_whole harg4 zeros2]
  isplitl [H6]
  · iexists _; isplitr; swap; · iexact H6
    ipureintro; sl_unfold_words; rw [read_whole_store _ _ zeros2]
    rw [load_whole harg1 zeros2, load_whole harg2 zeros2, load_whole harg3 zeros2, load_whole harg5 zeros2,
      load_whole harg4 zeros2]
  isplitl [H7]
  · iexists _; isplitr; · ipureintro; exact harg8.read_unread _
    iexact H7
  iexists _; isplitr; swap; · iexact HS0
  ipureintro; sl_unfold_words; rw [read_whole_store _ _ zeros2]
  rw [load_whole harg1 zeros2, load_whole harg2 zeros2, load_whole harg3 zeros2, load_whole harg5 zeros2,
    load_whole harg4 zeros2, View.readCov_unit_zero _ zeros2]

set_option maxHeartbeats 1000000 in
/-- A MIDDLE POINT: the running column sum grows by this block's. -/
theorem body1_middle (hc0 : ¬isFirst1 i) (hc1 : ¬isLast1 i) (a : Vec F S1x16 .f32) (o8 : Vec F S1x16 .f32)
    (E : Set ℕ) (K : PUnit → sProp 𝕄) :
    iprop(ins1 c arg1 arg2 arg3 arg4 arg5 x0 x1 x2 x3 x4
        ∗ (∃ d, owns (c : Thread nD τ) arg6 fullShare d) ∗ (∃ d, owns (c : Thread nD τ) arg7 fullShare d)
        ∗ owns (c : Thread nD τ) arg8 fullShare o8 ∗ owns (c : Thread nD τ) arg9 fullShare a
        ∗ (iprop(ins1 c arg1 arg2 arg3 arg4 arg5 x0 x1 x2 x3 x4
            ∗ owns (c : Thread nD τ) arg6 fullShare (k1_pay3 x0 x1 x2 x4 x3)
            ∗ owns (c : Thread nD τ) arg7 fullShare (k1_pay4 x0 x1 x2 x4 x3)
            ∗ owns (c : Thread nD τ) arg8 fullShare o8
            ∗ owns (c : Thread nD τ) arg9 fullShare (k1_pay1 (k1_pay5 x0 x1 x2 x4 x3 a))) -∗ K ⟨⟩))
      ⊢ wp frame (wpE (defs₀ (F := F)) Variants.none c none) E
          (cc1__quant_layer_kernel i arg1 harg1 arg2 harg2 arg3 harg3 arg4 harg4 arg5 harg5 arg6 harg6 arg7 harg7
            arg8 harg8 arg9 harg9) K := by
  simp only [cc1__quant_layer_kernel_eq_skeleton]; unfold cc1__quant_layer_kernel_skel
  simp only [k1_part1_eq_skeleton]
  unfold ins1 owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%f7, %hf7, H7⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4
  obtain rfl := harg8.eq_unread hf7; obtain rfl := harg9.eq_unread hfs0
  sl_exec (disch := first | sl_exact hc0 | sl_exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr; swap; · iexact H5
    ipureintro; sl_unfold_words; rw [read_whole_store _ _ zeros2]
    rw [load_whole harg1 zeros2, load_whole harg2 zeros2, load_whole harg3 zeros2, load_whole harg5 zeros2,
      load_whole harg4 zeros2]
  isplitl [H6]
  · iexists _; isplitr; swap; · iexact H6
    ipureintro; sl_unfold_words; rw [read_whole_store _ _ zeros2]
    rw [load_whole harg1 zeros2, load_whole harg2 zeros2, load_whole harg3 zeros2, load_whole harg5 zeros2,
      load_whole harg4 zeros2]
  isplitl [H7]
  · iexists _; isplitr; · ipureintro; exact harg8.read_unread _
    iexact H7
  iexists _; isplitr; swap; · iexact HS0
  ipureintro; sl_unfold_words; rw [read_whole_store _ _ zeros2]
  rw [load_whole harg1 zeros2, load_whole harg2 zeros2, load_whole harg3 zeros2, load_whole harg5 zeros2,
    load_whole harg4 zeros2, load_whole harg9 zeros2]

set_option maxHeartbeats 1000000 in
/-- THE LAST POINT: as a middle point, and the running column sum is also the third result. -/
theorem body1_last (hc0 : ¬isFirst1 i) (hc1 : isLast1 i) (a : Vec F S1x16 .f32)
    (E : Set ℕ) (K : PUnit → sProp 𝕄) :
    iprop(ins1 c arg1 arg2 arg3 arg4 arg5 x0 x1 x2 x3 x4
        ∗ (∃ d, owns (c : Thread nD τ) arg6 fullShare d) ∗ (∃ d, owns (c : Thread nD τ) arg7 fullShare d)
        ∗ (∃ d, owns (c : Thread nD τ) arg8 fullShare d) ∗ owns (c : Thread nD τ) arg9 fullShare a
        ∗ (iprop(ins1 c arg1 arg2 arg3 arg4 arg5 x0 x1 x2 x3 x4
            ∗ owns (c : Thread nD τ) arg6 fullShare (k1_pay3 x0 x1 x2 x4 x3)
            ∗ owns (c : Thread nD τ) arg7 fullShare (k1_pay4 x0 x1 x2 x4 x3)
            ∗ owns (c : Thread nD τ) arg8 fullShare (k1_pay1 (k1_pay5 x0 x1 x2 x4 x3 a))
            ∗ owns (c : Thread nD τ) arg9 fullShare (k1_pay1 (k1_pay5 x0 x1 x2 x4 x3 a))) -∗ K ⟨⟩))
      ⊢ wp frame (wpE (defs₀ (F := F)) Variants.none c none) E
          (cc1__quant_layer_kernel i arg1 harg1 arg2 harg2 arg3 harg3 arg4 harg4 arg5 harg5 arg6 harg6 arg7 harg7
            arg8 harg8 arg9 harg9) K := by
  simp only [cc1__quant_layer_kernel_eq_skeleton]; unfold cc1__quant_layer_kernel_skel
  simp only [k1_part1_eq_skeleton]
  unfold ins1 owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%d7, %f7, -, H7⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hfs0
  sl_exec (disch := first | sl_exact hc0 | sl_exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr; swap; · iexact H5
    ipureintro; sl_unfold_words; rw [read_whole_store _ _ zeros2]
    rw [load_whole harg1 zeros2, load_whole harg2 zeros2, load_whole harg3 zeros2, load_whole harg5 zeros2,
      load_whole harg4 zeros2]
  isplitl [H6]
  · iexists _; isplitr; swap; · iexact H6
    ipureintro; sl_unfold_words; rw [read_whole_store _ _ zeros2]
    rw [load_whole harg1 zeros2, load_whole harg2 zeros2, load_whole harg3 zeros2, load_whole harg5 zeros2,
      load_whole harg4 zeros2]
  isplitl [H7]
  · iexists _; isplitr; swap; · iexact H7
    ipureintro; sl_unfold_words; rw [read_whole_store _ _ zeros2, View.readCov_unit_zero _ zeros2]
    rw [load_whole harg1 zeros2, load_whole harg2 zeros2, load_whole harg3 zeros2, load_whole harg5 zeros2,
      load_whole harg4 zeros2, load_whole harg9 zeros2]
  iexists _; isplitr; swap; · iexact HS0
  ipureintro; sl_unfold_words; rw [read_whole_store _ _ zeros2]
  rw [load_whole harg1 zeros2, load_whole harg2 zeros2, load_whole harg3 zeros2, load_whole harg5 zeros2,
    load_whole harg4 zeros2, load_whole harg9 zeros2]

end Runs

end Cert.KernelIdeal.Hand

end
-- ==== Proof.IdealRegion1.lean ====
/- The second call as a region of the program: from any contents of the arrays it reads, what each grid point leaves in
   the output blocks and in the scratch, and that the body does so at every point. -/
module

public import proofs.«01_k».proof.Proof.IdealBody1

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (W : Dev nD → Valuation τ sig (Elt F))

/-! ## Which points are first, middle and last -/

theorem isFirst1_iff : ∀ t : Fin cfg1.N, isFirst1 (grid1.coords t) ↔ t.val = 0 :=
  (fun t => by
    have ht : t.val < 25 := Nat.lt_of_lt_of_eq t.isLt N_1
    have e0 : (grid1.coords t 0).val = t.val / 1 % 25 := Pipeline.Grid.coords_val t 0 (by decide) rfl
    simp only [isFirst1, e0]
    word_cmp
   : ∀ t : Fin grid1.N, isFirst1 (grid1.coords t) ↔ t.val = 0)

theorem isLast1_iff : ∀ t : Fin cfg1.N, isLast1 (grid1.coords t) ↔ t.val = 24 :=
  (fun t => by
    have ht : t.val < 25 := Nat.lt_of_lt_of_eq t.isLt N_1
    have e0 : (grid1.coords t 0).val = t.val / 1 % 25 := Pipeline.Grid.coords_val t 0 (by decide) rfl
    simp only [isLast1, k1_cond2, e0]
    word_cmp
   : ∀ t : Fin grid1.N, isLast1 (grid1.coords t) ↔ t.val = 24)

/-- The column-sum block is left alone and not written back before the last point. -/
theorem idle1_sum : ∀ t : Fin cfg1.N, ¬isLast1 (grid1.coords t) → cfg1.idle 7 (grid1.coords t) = true := by
  decide +kernel
theorem noFlush1_sum : ∀ t : Fin cfg1.N, ¬isLast1 (grid1.coords t) → (cfg1.win 7).flush t = false := by
  decide +kernel
theorem live1_sum : ∀ t : Fin cfg1.N, isLast1 (grid1.coords t) → cfg1.idle 7 (grid1.coords t) = false := by
  decide +kernel

/-! ## The contents, point by point -/

/-- Window `w`'s block at point `t`, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (W c (Proc.devRef .tc (Pipeline.arrRef spec1 w)))

/-- The first grid point. -/
abbrev start1 : Fin cfg1.N := ⟨0, Nat.lt_of_lt_of_eq (by decide : 0 < 25) N_1.symm⟩

/-- The running column sum before point `n`. -/
def acc1 (c : Dev nD) : ℕ → Vec F S1x16 .f32
  | 0 => k1_pay2 (F := F)
  | n + 1 =>
    if h : n < cfg1.N then
      k1_pay1 (k1_pay5 (iblk1 W c 0 ⟨n, h⟩) (iblk1 W c 1 ⟨n, h⟩) (iblk1 W c 2 ⟨n, h⟩) (iblk1 W c 4 ⟨n, h⟩) (iblk1 W c 3 ⟨n, h⟩) (acc1 c n))
    else acc1 c n

theorem acc1_succ (c : Dev nD) (t : Fin cfg1.N) :
    acc1 W c (t.val + 1)
      = k1_pay1 (k1_pay5 (iblk1 W c 0 t) (iblk1 W c 1 t) (iblk1 W c 2 t) (iblk1 W c 4 t) (iblk1 W c 3 t) (acc1 W c t.val)) :=
  dif_pos t.isLt

/-- The scratch operand, as a whole buffer. -/
abbrev acc1M : Memref sig .tc .vmem S1x16 .f32 := Memref.whole cc1_scratch0

/-- Everything scoped beside the region's windows and its scratch. -/
abbrev rest1 (c : Dev nD) : sProp 𝕄 :=
  Pipeline.scopedRestBut (Ix := Unit) (Name := ℕ) (U := UR sig nD τ) (Lvl := ℕ) (Val := Elt F) spec1 c [cc1_scratch0]

/-- What is held between points: at the start the scratch at anything, afterwards at the named contents. -/
def inv1 (c : Dev nD) : ℕ → sProp 𝕄
  | 0 => Pipeline.ΦA spec1 c
  | n + 1 => iprop((owns (c : Thread nD τ) acc1M fullShare (acc1 W c (n + 1)) ∗ rest1 c) ∗ (∃ r, prngReg c r))

theorem inv1_pos (c : Dev nD) {n : ℕ} (h : n ≠ 0) :
    inv1 W c n = iprop((owns (c : Thread nD τ) acc1M fullShare (acc1 W c n) ∗ rest1 c) ∗ (∃ r, prngReg c r)) := by
  cases n with
  | zero => exact absurd rfl h
  | succ n => rfl

/-- The state at the start, with the scratch as owned buffers. -/
theorem start1_eq (c : Dev nD) :
    (Pipeline.ΦA spec1 c : sProp 𝕄)
      = iprop(((∃ d, owns (c : Thread nD τ) acc1M fullShare d) ∗ rest1 c) ∗ (∃ r, prngReg c r)) := by
  unfold Pipeline.ΦA; rw [scopedRest1_split]; simp only [acc1M, owns_whole]; try rfl

/-- The region's data: the arrays as found, what each point leaves in each block, the state between points. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => k1_pay3 (iblk1 W c 0 t) (iblk1 W c 1 t) (iblk1 W c 2 t) (iblk1 W c 4 t) (iblk1 W c 3 t)
    | ⟨6, _⟩ => k1_pay4 (iblk1 W c 0 t) (iblk1 W c 1 t) (iblk1 W c 2 t) (iblk1 W c 4 t) (iblk1 W c 3 t)
    | ⟨7, _⟩ => acc1 W c (t.val + 1)
  Φ t := inv1 W c t.val
  q _ := fullShare
  owed _ := 0

theorem dat1_A (c : Dev nD) (w : Fin cfg1.W) :
    (dat1 W c).A w = W c (Proc.devRef .tc (Pipeline.arrRef spec1 w)) := by dsimp only [dat1]

theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) :
    (dat1 W c).after 5 t = k1_pay3 (iblk1 W c 0 t) (iblk1 W c 1 t) (iblk1 W c 2 t) (iblk1 W c 4 t) (iblk1 W c 3 t) := by dsimp only [dat1]
theorem after1_6 (c : Dev nD) (t : Fin cfg1.N) :
    (dat1 W c).after 6 t = k1_pay4 (iblk1 W c 0 t) (iblk1 W c 1 t) (iblk1 W c 2 t) (iblk1 W c 4 t) (iblk1 W c 3 t) := by dsimp only [dat1]
theorem after1_7 (c : Dev nD) (t : Fin cfg1.N) : (dat1 W c).after 7 t = acc1 W c (t.val + 1) := by dsimp only [dat1]

/-! Each input block is found in place, whether fetched at the point or not. -/

theorem before1_0 (c : Dev nD) (t : Fin cfg1.N) (d) : (dat1 W c).before 0 t d = iblk1 W c 0 t :=
  ((dat1 W c).before_in_eq_fetched 0 rfl (fun _ => rfl) (fun _ _ _ => rfl)
    (fun t => by rw [after1_0]; unfold Dat.blockOf iblk1; rw [dat1_A]; try rfl) t d).trans
    (by unfold Dat.fetched Dat.blockOf iblk1; rw [dat1_A]; try rfl)
theorem before1_1 (c : Dev nD) (t : Fin cfg1.N) (d) : (dat1 W c).before 1 t d = iblk1 W c 1 t :=
  ((dat1 W c).before_in_eq_fetched 1 rfl (fun _ => rfl) (fun _ _ _ => rfl)
    (fun t => by rw [after1_1]; unfold Dat.blockOf iblk1; rw [dat1_A]; try rfl) t d).trans
    (by unfold Dat.fetched Dat.blockOf iblk1; rw [dat1_A]; try rfl)
theorem before1_2 (c : Dev nD) (t : Fin cfg1.N) (d) : (dat1 W c).before 2 t d = iblk1 W c 2 t :=
  ((dat1 W c).before_in_eq_fetched 2 rfl (fun _ => rfl) (fun _ _ _ => rfl)
    (fun t => by rw [after1_2]; unfold Dat.blockOf iblk1; rw [dat1_A]; try rfl) t d).trans
    (by unfold Dat.fetched Dat.blockOf iblk1; rw [dat1_A]; try rfl)
theorem before1_3 (c : Dev nD) (t : Fin cfg1.N) (d) : (dat1 W c).before 3 t d = iblk1 W c 3 t :=
  ((dat1 W c).before_in_eq_fetched 3 rfl (fun _ => rfl) (fun _ _ _ => rfl)
    (fun t => by rw [after1_3]; unfold Dat.blockOf iblk1; rw [dat1_A]; try rfl) t d).trans
    (by unfold Dat.fetched Dat.blockOf iblk1; rw [dat1_A]; try rfl)
theorem before1_4 (c : Dev nD) (t : Fin cfg1.N) (d) : (dat1 W c).before 4 t d = iblk1 W c 4 t :=
  ((dat1 W c).before_in_eq_fetched 4 rfl (fun _ => rfl) (fun _ _ _ => rfl)
    (fun t => by rw [after1_4]; unfold Dat.blockOf iblk1; rw [dat1_A]; try rfl) t d).trans
    (by unfold Dat.fetched Dat.blockOf iblk1; rw [dat1_A]; try rfl)

/-! ## The body at every point -/

/-- Each block's current buffer at point `t`. -/
abbrev stg1 (t : Fin cfg1.N) (w : Fin cfg1.W) := (cfg1.win w).stage (cfg1.slots t w)

/-- A block that is never idle is left at the data's contents. -/
theorem leaves1 (c : Dev nD) (w : Fin cfg1.W) (t : Fin cfg1.N) (h : cfg1.idle w (grid1.coords t) = false) :
    (dat1 W c).leavesExact w t = owns (c : Thread nD τ) (stg1 t w) fullShare ((dat1 W c).after w t) := by
  unfold Dat.leavesExact; rw [h]

/-- What the body is called with at point `t`, -/
def pre1 (c : Dev nD) (t : Fin cfg1.N) : sProp 𝕄 :=
  iprop((dat1 W c).Φ t.castSucc ∗ (dat1 W c).owesAt () t.castSucc
    ∗ (∃ d, owns (c : Thread nD τ) (stg1 t 0) fullShare ((dat1 W c).before 0 t d))
    ∗ (∃ d, owns (c : Thread nD τ) (stg1 t 1) fullShare ((dat1 W c).before 1 t d))
    ∗ (∃ d, owns (c : Thread nD τ) (stg1 t 2) fullShare ((dat1 W c).before 2 t d))
    ∗ (∃ d, owns (c : Thread nD τ) (stg1 t 3) fullShare ((dat1 W c).before 3 t d))
    ∗ (∃ d, owns (c : Thread nD τ) (stg1 t 4) fullShare ((dat1 W c).before 4 t d))
    ∗ (∃ d, owns (c : Thread nD τ) (stg1 t 5) fullShare ((dat1 W c).before 5 t d))
    ∗ (∃ d, owns (c : Thread nD τ) (stg1 t 6) fullShare ((dat1 W c).before 6 t d))
    ∗ (∃ d, owns (c : Thread nD τ) (stg1 t 7) fullShare ((dat1 W c).before 7 t d)))

/-- and what it returns. -/
def post1 (c : Dev nD) (t : Fin cfg1.N) : sProp 𝕄 :=
  iprop((dat1 W c).Φ t.succ ∗ (dat1 W c).owesAt () t.succ
    ∗ (dat1 W c).leavesExact 0 t ∗ (dat1 W c).leavesExact 1 t ∗ (dat1 W c).leavesExact 2 t
    ∗ (dat1 W c).leavesExact 3 t ∗ (dat1 W c).leavesExact 4 t ∗ (dat1 W c).leavesExact 5 t
    ∗ (dat1 W c).leavesExact 6 t ∗ (dat1 W c).leavesExact 7 t)

set_option maxHeartbeats 4000000 in
/-- The body at any point, by the three cases. -/
theorem point1 (c : Dev nD) (t : Fin cfg1.N) :
    pre1 W c t ⊢ wp frame (wpE (defs₀ (F := F)) Variants.none c none) Set.univ (bodyAt1 t) (fun _ => post1 W c t) := by
  unfold pre1 post1 bodyAt1
  simp only [before1_0, before1_1, before1_2, before1_3, before1_4]
  rw [show (dat1 W c).owesAt () t.succ = (dat1 W c).owesAt () t.castSucc from rfl]
  rw [show (dat1 W c).Φ t.succ = inv1 W c (t.val + 1) from rfl, inv1_pos W c (Nat.succ_ne_zero _),
    show (dat1 W c).Φ t.castSucc = inv1 W c t.val from rfl]
  have hN : t.val < 25 := lt_of_lt_of_eq t.isLt (show cfg1.N = 25 from N_1)
  rw [leaves1 W c 0 t rfl, after1_0, leaves1 W c 1 t rfl, after1_1, leaves1 W c 2 t rfl, after1_2,
    leaves1 W c 3 t rfl, after1_3, leaves1 W c 4 t rfl, after1_4, leaves1 W c 5 t rfl, after1_5,
    leaves1 W c 6 t rfl, after1_6, acc1_succ]
  by_cases h0 : t.val = 0
  · have h1 : ¬isLast1 (grid1.coords t) := fun h => by have := (isLast1_iff t).mp h; omega
    obtain rfl : t = start1 := Fin.ext h0
    rw [Dat.leavesExact_idle (dat1 W c) 7 _ (idle1_sum _ h1) (noFlush1_sum _ h1)]
    rw [show inv1 W c (start1 : Fin cfg1.N).val = Pipeline.ΦA spec1 c from rfl, start1_eq,
      show acc1 W c (start1 : Fin cfg1.N).val = k1_pay2 (F := F) from rfl]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body1_first c (grid1.coords start1) _ _ _ _ _ _ _ _ _ _ _ _ _ _ _ _ _ (Memref.isWhole_whole _)
      (iblk1 W c 0 start1) (iblk1 W c 1 start1) (iblk1 W c 2 start1) (iblk1 W c 3 start1) (iblk1 W c 4 start1)
      ((isFirst1_iff start1).mpr rfl) h1 _ Set.univ _)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexact H7
    isplitl [HS0]; · iexact HS0
    iintro ⟨⟨H0, H1, H2, H3, H4⟩, H5, H6, H7, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hf : ¬isFirst1 (grid1.coords t) := fun h => h0 ((isFirst1_iff t).mp h)
    rw [inv1_pos W c h0]
    by_cases h1 : isLast1 (grid1.coords t)
    · rw [leaves1 W c 7 t (live1_sum t h1), after1_7, acc1_succ]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body1_last c (grid1.coords t) _ _ _ _ _ _ _ _ _ _ _ _ _ _ _ _ _ (Memref.isWhole_whole _)
        (iblk1 W c 0 t) (iblk1 W c 1 t) (iblk1 W c 2 t) (iblk1 W c 3 t) (iblk1 W c 4 t) hf h1 _ Set.univ _)
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [H6]; · iexists _; iexact H6
      isplitl [H7]; · iexists _; iexact H7
      isplitl [HS0]; · iexact HS0
      iintro ⟨⟨H0, H1, H2, H3, H4⟩, H5, H6, H7, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 W c) 7 t (idle1_sum t h1) (noFlush1_sum t h1)]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body1_middle c (grid1.coords t) _ _ _ _ _ _ _ _ _ _ _ _ _ _ _ _ _ (Memref.isWhole_whole _)
        (iblk1 W c 0 t) (iblk1 W c 1 t) (iblk1 W c 2 t) (iblk1 W c 3 t) (iblk1 W c 4 t) hf h1 _ _ Set.univ _)
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [H6]; · iexists _; iexact H6
      isplitl [H7]; · iexact H7
      isplitl [HS0]; · iexact HS0
      iintro ⟨⟨H0, H1, H2, H3, H4⟩, H5, H6, H7, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem row1 (t : Fin cfg1.N) : defs₀ (F := F) .tc cfg1.body (cfg1.bodyArgs t (cfg1.slots t)) = bodyAt1 t := by
  unfold defs₀; rw [Defs.onTc_tc]

/-- The body does what the data says at every point. -/
theorem obligation1 (c : Dev nD) : BodyObligation (dat1 (F := F) W c) (defs₀ (F := F)) Variants.none () Set.univ :=
  fun t => by
    rw [bigSep_W1, bigSep_W1, row1]
    exact triple_restated (point1 W c t) rfl .rfl fun _ => .rfl

/-- What the region is entered with is the state before the first point, -/
theorem enter1 (c : Dev nD) : Pipeline.ΦA spec1 c ⊢ (dat1 W c).Φ 0 := by
  rw [show (dat1 W c).Φ 0 = Pipeline.ΦA spec1 c from rfl]

/-- and the state after the last point gives it back. -/
theorem leave1 (c : Dev nD) : (dat1 W c).Φ (Fin.last cfg1.N) ⊢ Pipeline.ΦA spec1 c := by
  rw [show (dat1 W c).Φ (Fin.last cfg1.N) = inv1 W c (Fin.last cfg1.N).val from rfl,
    inv1_pos W c (by rw [Fin.val_last]; have : cfg1.N = 25 := N_1; omega), start1_eq]
  iintro ⟨⟨HS0, Hr⟩, Hg⟩
  isplitl [HS0 Hr]
  · isplitl [HS0]; · iexists _; iexact HS0
    iexact Hr
  iexact Hg

end Cert.KernelIdeal.Hand

end
-- ==== Proof.IdealBody2.lean ====
/- The third call's body, one grid point at a time: what each of its three cases (the first point, a middle point,
   the last point) leaves in its output blocks and in its scratch buffer. -/
module

public import proofs.«01_k».proof.Proof.IdealBody1

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The body's first branch is taken where the grid coordinate is zero. -/
abbrev isFirst2 (i : grid2.Coords) : Prop :=
  (Scalar.cmpi .ne (Scalar.extui (Scalar.cmpi .eq (BitVec.ofNat 32 (i 0).val) 0#32)) 0#32) = 1#1
/-- Its second where the coordinate is the last. -/
abbrev isLast2 (i : grid2.Coords) : Prop := k2_cond2 i = 1#1

section Runs

variable (c : Dev nD) (i : grid2.Coords)
  (arg1 : Memref sig .tc .vmem S400x10000 .i8) (harg1 : arg1.IsWhole)
  (arg2 : Memref sig .tc .vmem S10000x16 .bf16) (harg2 : arg2.IsWhole)
  (arg3 : Memref sig .tc .vmem S1x16 .f32) (harg3 : arg3.IsWhole)
  (arg4 : Memref sig .tc .vmem S32x16 .f32) (harg4 : arg4.IsWhole)
  (arg5 : Memref sig .tc .vmem S1x16 .f32) (harg5 : arg5.IsWhole)
  (arg6 : Memref sig .tc .vmem S400x16 .f32) (harg6 : arg6.IsWhole)
  (arg7 : Memref sig .tc .vmem S400x16 .bf16) (harg7 : arg7.IsWhole)
  (arg8 : Memref sig .tc .vmem S1x16 .f32) (harg8 : arg8.IsWhole)
  (arg9 : Memref sig .tc .vmem S1x16 .f32) (harg9 : arg9.IsWhole)
  (x0 : Vec F S400x10000 .i8) (x1 : Vec F S10000x16 .bf16) (x2 : Vec F S1x16 .f32) (x3 : Vec F S32x16 .f32)
  (x4 : Vec F S1x16 .f32)

/-- The five inputs' blocks, each owned whole. -/
abbrev ins2 : sProp 𝕄 :=
  iprop(owns (c : Thread nD τ) arg1 fullShare x0 ∗ owns (c : Thread nD τ) arg2 fullShare x1
    ∗ owns (c : Thread nD τ) arg3 fullShare x2 ∗ owns (c : Thread nD τ) arg4 fullShare x3
    ∗ owns (c : Thread nD τ) arg5 fullShare x4)

set_option maxHeartbeats 1000000 in
/-- THE FIRST POINT: the running column sum starts from zero. -/
theorem body2_first (hc0 : isFirst2 i) (hc1 : ¬isLast2 i) (o8 : Vec F S1x16 .f32)
    (E : Set ℕ) (K : PUnit → sProp 𝕄) :
    iprop(ins2 c arg1 arg2 arg3 arg4 arg5 x0 x1 x2 x3 x4
        ∗ (∃ d, owns (c : Thread nD τ) arg6 fullShare d) ∗ (∃ d, owns (c : Thread nD τ) arg7 fullShare d)
        ∗ owns (c : Thread nD τ) arg8 fullShare o8 ∗ (∃ d, owns (c : Thread nD τ) arg9 fullShare d)
        ∗ (iprop(ins2 c arg1 arg2 arg3 arg4 arg5 x0 x1 x2 x3 x4
            ∗ owns (c : Thread nD τ) arg6 fullShare (k2_pay2 x0 x1 x2 x4)
            ∗ owns (c : Thread nD τ) arg7 fullShare (k2_pay3 x0 x1 x2 x4)
            ∗ owns (c : Thread nD τ) arg8 fullShare o8
            ∗ owns (c : Thread nD τ) arg9 fullShare (k2_pay4 x0 x1 x2 x4 (k2_pay1 (F := F)))) -∗ K ⟨⟩))
      ⊢ wp frame (wpE (defs₀ (F := F)) Variants.none c none) E
          (cc2__quant_layer_kernel i arg1 harg1 arg2 harg2 arg3 harg3 arg4 harg4 arg5 harg5 arg6 harg6 arg7 harg7
            arg8 harg8 arg9 harg9) K := by
  simp only [cc2__quant_layer_kernel_eq_skeleton]; unfold cc2__quant_layer_kernel_skel
  simp only [k2_part1_eq_skeleton]
  unfold ins2 owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%f7, %hf7, H7⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4
  obtain rfl := harg8.eq_unread hf7
  sl_exec (disch := first | sl_exact hc0 | sl_exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr; swap; · iexact H5
    ipureintro; sl_unfold_words; rw [read_whole_store _ _ zeros2]
    rw [load_whole harg1 zeros2, load_whole harg2 zeros2, load_whole harg3 zeros2, load_whole harg5 zeros2]
  isplitl [H6]
  · iexists _; isplitr; swap; · iexact H6
    ipureintro; sl_unfold_words; rw [read_whole_store _ _ zeros2]
    rw [load_whole harg1 zeros2, load_whole harg2 zeros2, load_whole harg3 zeros2, load_whole harg5 zeros2]
  isplitl [H7]
  · iexists _; isplitr; · ipureintro; exact harg8.read_unread _
    iexact H7
  iexists _; isplitr; swap; · iexact HS0
  ipureintro; sl_unfold_words; rw [read_whole_store _ _ zeros2]
  rw [load_whole harg1 zeros2, load_whole harg2 zeros2, load_whole harg3 zeros2, load_whole harg5 zeros2, View.readCov_unit_zero _ zeros2]

set_option maxHeartbeats 1000000 in
/-- A MIDDLE POINT: the running column sum grows by this block's. -/
theorem body2_middle (hc0 : ¬isFirst2 i) (hc1 : ¬isLast2 i) (a : Vec F S1x16 .f32) (o8 : Vec F S1x16 .f32)
    (E : Set ℕ) (K : PUnit → sProp 𝕄) :
    iprop(ins2 c arg1 arg2 arg3 arg4 arg5 x0 x1 x2 x3 x4
        ∗ (∃ d, owns (c : Thread nD τ) arg6 fullShare d) ∗ (∃ d, owns (c : Thread nD τ) arg7 fullShare d)
        ∗ owns (c : Thread nD τ) arg8 fullShare o8 ∗ owns (c : Thread nD τ) arg9 fullShare a
        ∗ (iprop(ins2 c arg1 arg2 arg3 arg4 arg5 x0 x1 x2 x3 x4
            ∗ owns (c : Thread nD τ) arg6 fullShare (k2_pay2 x0 x1 x2 x4)
            ∗ owns (c : Thread nD τ) arg7 fullShare (k2_pay3 x0 x1 x2 x4)
            ∗ owns (c : Thread nD τ) arg8 fullShare o8
            ∗ owns (c : Thread nD τ) arg9 fullShare (k2_pay4 x0 x1 x2 x4 a)) -∗ K ⟨⟩))
      ⊢ wp frame (wpE (defs₀ (F := F)) Variants.none c none) E
          (cc2__quant_layer_kernel i arg1 harg1 arg2 harg2 arg3 harg3 arg4 harg4 arg5 harg5 arg6 harg6 arg7 harg7
            arg8 harg8 arg9 harg9) K := by
  simp only [cc2__quant_layer_kernel_eq_skeleton]; unfold cc2__quant_layer_kernel_skel
  simp only [k2_part1_eq_skeleton]
  unfold ins2 owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%f7, %hf7, H7⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4
  obtain rfl := harg8.eq_unread hf7; obtain rfl := harg9.eq_unread hfs0
  sl_exec (disch := first | sl_exact hc0 | sl_exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr; swap; · iexact H5
    ipureintro; sl_unfold_words; rw [read_whole_store _ _ zeros2]
    rw [load_whole harg1 zeros2, load_whole harg2 zeros2, load_whole harg3 zeros2, load_whole harg5 zeros2]
  isplitl [H6]
  · iexists _; isplitr; swap; · iexact H6
    ipureintro; sl_unfold_words; rw [read_whole_store _ _ zeros2]
    rw [load_whole harg1 zeros2, load_whole harg2 zeros2, load_whole harg3 zeros2, load_whole harg5 zeros2]
  isplitl [H7]
  · iexists _; isplitr; · ipureintro; exact harg8.read_unread _
    iexact H7
  iexists _; isplitr; swap; · iexact HS0
  ipureintro; sl_unfold_words; rw [read_whole_store _ _ zeros2]
  rw [load_whole harg1 zeros2, load_whole harg2 zeros2, load_whole harg3 zeros2, load_whole harg5 zeros2, load_whole harg9 zeros2]

set_option maxHeartbeats 1000000 in
/-- THE LAST POINT: as a middle point, and the running column sum is also the third result. -/
theorem body2_last (hc0 : ¬isFirst2 i) (hc1 : isLast2 i) (a : Vec F S1x16 .f32)
    (E : Set ℕ) (K : PUnit → sProp 𝕄) :
    iprop(ins2 c arg1 arg2 arg3 arg4 arg5 x0 x1 x2 x3 x4
        ∗ (∃ d, owns (c : Thread nD τ) arg6 fullShare d) ∗ (∃ d, owns (c : Thread nD τ) arg7 fullShare d)
        ∗ (∃ d, owns (c : Thread nD τ) arg8 fullShare d) ∗ owns (c : Thread nD τ) arg9 fullShare a
        ∗ (iprop(ins2 c arg1 arg2 arg3 arg4 arg5 x0 x1 x2 x3 x4
            ∗ owns (c : Thread nD τ) arg6 fullShare (k2_pay2 x0 x1 x2 x4)
            ∗ owns (c : Thread nD τ) arg7 fullShare (k2_pay3 x0 x1 x2 x4)
            ∗ owns (c : Thread nD τ) arg8 fullShare (k2_pay4 x0 x1 x2 x4 a)
            ∗ owns (c : Thread nD τ) arg9 fullShare (k2_pay4 x0 x1 x2 x4 a)) -∗ K ⟨⟩))
      ⊢ wp frame (wpE (defs₀ (F := F)) Variants.none c none) E
          (cc2__quant_layer_kernel i arg1 harg1 arg2 harg2 arg3 harg3 arg4 harg4 arg5 harg5 arg6 harg6 arg7 harg7
            arg8 harg8 arg9 harg9) K := by
  simp only [cc2__quant_layer_kernel_eq_skeleton]; unfold cc2__quant_layer_kernel_skel
  simp only [k2_part1_eq_skeleton]
  unfold ins2 owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%d7, %f7, -, H7⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hfs0
  sl_exec (disch := first | sl_exact hc0 | sl_exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr; swap; · iexact H5
    ipureintro; sl_unfold_words; rw [read_whole_store _ _ zeros2]
    rw [load_whole harg1 zeros2, load_whole harg2 zeros2, load_whole harg3 zeros2, load_whole harg5 zeros2]
  isplitl [H6]
  · iexists _; isplitr; swap; · iexact H6
    ipureintro; sl_unfold_words; rw [read_whole_store _ _ zeros2]
    rw [load_whole harg1 zeros2, load_whole harg2 zeros2, load_whole harg3 zeros2, load_whole harg5 zeros2]
  isplitl [H7]
  · iexists _; isplitr; swap; · iexact H7
    ipureintro; sl_unfold_words; rw [read_whole_store _ _ zeros2, View.readCov_unit_zero _ zeros2]
    rw [load_whole harg1 zeros2, load_whole harg2 zeros2, load_whole harg3 zeros2, load_whole harg5 zeros2, load_whole harg9 zeros2]
  iexists _; isplitr; swap; · iexact HS0
  ipureintro; sl_unfold_words; rw [read_whole_store _ _ zeros2]
  rw [load_whole harg1 zeros2, load_whole harg2 zeros2, load_whole harg3 zeros2, load_whole harg5 zeros2, load_whole harg9 zeros2]

end Runs

end Cert.KernelIdeal.Hand

end
-- ==== Proof.IdealRegion2.lean ====
/- The third call as a region of the program: from any contents of the arrays it reads, what each grid point leaves in
   the output blocks and in the scratch, and that the body does so at every point. -/
module

public import proofs.«01_k».proof.Proof.IdealBody2

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (W : Dev nD → Valuation τ sig (Elt F))

/-! ## Which points are first, middle and last -/

theorem isFirst2_iff : ∀ t : Fin cfg2.N, isFirst2 (grid2.coords t) ↔ t.val = 0 :=
  (fun t => by
    have ht : t.val < 25 := Nat.lt_of_lt_of_eq t.isLt N_2
    have e0 : (grid2.coords t 0).val = t.val / 1 % 25 := Pipeline.Grid.coords_val t 0 (by decide) rfl
    simp only [isFirst2, e0]
    word_cmp
   : ∀ t : Fin grid2.N, isFirst2 (grid2.coords t) ↔ t.val = 0)

theorem isLast2_iff : ∀ t : Fin cfg2.N, isLast2 (grid2.coords t) ↔ t.val = 24 :=
  (fun t => by
    have ht : t.val < 25 := Nat.lt_of_lt_of_eq t.isLt N_2
    have e0 : (grid2.coords t 0).val = t.val / 1 % 25 := Pipeline.Grid.coords_val t 0 (by decide) rfl
    simp only [isLast2, k2_cond2, e0]
    word_cmp
   : ∀ t : Fin grid2.N, isLast2 (grid2.coords t) ↔ t.val = 24)

/-- The column-sum block is left alone and not written back before the last point. -/
theorem idle2_sum : ∀ t : Fin cfg2.N, ¬isLast2 (grid2.coords t) → cfg2.idle 7 (grid2.coords t) = true := by
  decide +kernel
theorem noFlush2_sum : ∀ t : Fin cfg2.N, ¬isLast2 (grid2.coords t) → (cfg2.win 7).flush t = false := by
  decide +kernel
theorem live2_sum : ∀ t : Fin cfg2.N, isLast2 (grid2.coords t) → cfg2.idle 7 (grid2.coords t) = false := by
  decide +kernel

/-! ## The contents, point by point -/

/-- Window `w`'s block at point `t`, read off its array as the region finds it. -/
def iblk2 (c : Dev nD) (w : Fin cfg2.W) (t : Fin cfg2.N) :
    ((cfg2.win w).xblock (cfg2.grid.coords t)).Idx → Elt F (cfg2.win w).elt :=
  ((cfg2.win w).blk t).view.read (Elt F) (W c (Proc.devRef .tc (Pipeline.arrRef spec2 w)))

/-- The first grid point. -/
abbrev start2 : Fin cfg2.N := ⟨0, Nat.lt_of_lt_of_eq (by decide : 0 < 25) N_2.symm⟩

/-- The running column sum before point `n`. -/
def acc2 (c : Dev nD) : ℕ → Vec F S1x16 .f32
  | 0 => k2_pay1 (F := F)
  | n + 1 =>
    if h : n < cfg2.N then
      k2_pay4 (iblk2 W c 0 ⟨n, h⟩) (iblk2 W c 1 ⟨n, h⟩) (iblk2 W c 2 ⟨n, h⟩) (iblk2 W c 4 ⟨n, h⟩) (acc2 c n)
    else acc2 c n

theorem acc2_succ (c : Dev nD) (t : Fin cfg2.N) :
    acc2 W c (t.val + 1)
      = k2_pay4 (iblk2 W c 0 t) (iblk2 W c 1 t) (iblk2 W c 2 t) (iblk2 W c 4 t) (acc2 W c t.val) :=
  dif_pos t.isLt

/-- The scratch operand, as a whole buffer. -/
abbrev acc2M : Memref sig .tc .vmem S1x16 .f32 := Memref.whole cc2_scratch0

/-- Everything scoped beside the region's windows and its scratch. -/
abbrev rest2 (c : Dev nD) : sProp 𝕄 :=
  Pipeline.scopedRestBut (Ix := Unit) (Name := ℕ) (U := UR sig nD τ) (Lvl := ℕ) (Val := Elt F) spec2 c [cc2_scratch0]

/-- What is held between points: at the start the scratch at anything, afterwards at the named contents. -/
def inv2 (c : Dev nD) : ℕ → sProp 𝕄
  | 0 => Pipeline.ΦA spec2 c
  | n + 1 => iprop((owns (c : Thread nD τ) acc2M fullShare (acc2 W c (n + 1)) ∗ rest2 c) ∗ (∃ r, prngReg c r))

theorem inv2_pos (c : Dev nD) {n : ℕ} (h : n ≠ 0) :
    inv2 W c n = iprop((owns (c : Thread nD τ) acc2M fullShare (acc2 W c n) ∗ rest2 c) ∗ (∃ r, prngReg c r)) := by
  cases n with
  | zero => exact absurd rfl h
  | succ n => rfl

/-- The state at the start, with the scratch as owned buffers. -/
theorem start2_eq (c : Dev nD) :
    (Pipeline.ΦA spec2 c : sProp 𝕄)
      = iprop(((∃ d, owns (c : Thread nD τ) acc2M fullShare d) ∗ rest2 c) ∗ (∃ r, prngReg c r)) := by
  unfold Pipeline.ΦA; rw [scopedRest2_split]; simp only [acc2M, owns_whole]; try rfl

/-- The region's data: the arrays as found, what each point leaves in each block, the state between points. -/
def dat2 (c : Dev nD) : Dat τ (Elt F) Unit ℕ (UR sig nD τ) ℕ cfg2 c where
  A w := W c (Proc.devRef .tc (Pipeline.arrRef spec2 w))
  after w t := match w with
    | ⟨0, _⟩ => iblk2 W c 0 t
    | ⟨1, _⟩ => iblk2 W c 1 t
    | ⟨2, _⟩ => iblk2 W c 2 t
    | ⟨3, _⟩ => iblk2 W c 3 t
    | ⟨4, _⟩ => iblk2 W c 4 t
    | ⟨5, _⟩ => k2_pay2 (iblk2 W c 0 t) (iblk2 W c 1 t) (iblk2 W c 2 t) (iblk2 W c 4 t)
    | ⟨6, _⟩ => k2_pay3 (iblk2 W c 0 t) (iblk2 W c 1 t) (iblk2 W c 2 t) (iblk2 W c 4 t)
    | ⟨7, _⟩ => acc2 W c (t.val + 1)
  Φ t := inv2 W c t.val
  q _ := fullShare
  owed _ := 0

theorem dat2_A (c : Dev nD) (w : Fin cfg2.W) :
    (dat2 W c).A w = W c (Proc.devRef .tc (Pipeline.arrRef spec2 w)) := by dsimp only [dat2]

theorem after2_0 (c : Dev nD) (t : Fin cfg2.N) : (dat2 W c).after 0 t = iblk2 W c 0 t := by dsimp only [dat2]
theorem after2_1 (c : Dev nD) (t : Fin cfg2.N) : (dat2 W c).after 1 t = iblk2 W c 1 t := by dsimp only [dat2]
theorem after2_2 (c : Dev nD) (t : Fin cfg2.N) : (dat2 W c).after 2 t = iblk2 W c 2 t := by dsimp only [dat2]
theorem after2_3 (c : Dev nD) (t : Fin cfg2.N) : (dat2 W c).after 3 t = iblk2 W c 3 t := by dsimp only [dat2]
theorem after2_4 (c : Dev nD) (t : Fin cfg2.N) : (dat2 W c).after 4 t = iblk2 W c 4 t := by dsimp only [dat2]
theorem after2_5 (c : Dev nD) (t : Fin cfg2.N) :
    (dat2 W c).after 5 t = k2_pay2 (iblk2 W c 0 t) (iblk2 W c 1 t) (iblk2 W c 2 t) (iblk2 W c 4 t) := by dsimp only [dat2]
theorem after2_6 (c : Dev nD) (t : Fin cfg2.N) :
    (dat2 W c).after 6 t = k2_pay3 (iblk2 W c 0 t) (iblk2 W c 1 t) (iblk2 W c 2 t) (iblk2 W c 4 t) := by dsimp only [dat2]
theorem after2_7 (c : Dev nD) (t : Fin cfg2.N) : (dat2 W c).after 7 t = acc2 W c (t.val + 1) := by dsimp only [dat2]

/-! Each input block is found in place, whether fetched at the point or not. -/

theorem before2_0 (c : Dev nD) (t : Fin cfg2.N) (d) : (dat2 W c).before 0 t d = iblk2 W c 0 t :=
  ((dat2 W c).before_in_eq_fetched 0 rfl (fun _ => rfl) (fun _ _ _ => rfl)
    (fun t => by rw [after2_0]; unfold Dat.blockOf iblk2; rw [dat2_A]; try rfl) t d).trans
    (by unfold Dat.fetched Dat.blockOf iblk2; rw [dat2_A]; try rfl)
theorem before2_1 (c : Dev nD) (t : Fin cfg2.N) (d) : (dat2 W c).before 1 t d = iblk2 W c 1 t :=
  ((dat2 W c).before_in_eq_fetched 1 rfl (fun _ => rfl) (fun _ _ _ => rfl)
    (fun t => by rw [after2_1]; unfold Dat.blockOf iblk2; rw [dat2_A]; try rfl) t d).trans
    (by unfold Dat.fetched Dat.blockOf iblk2; rw [dat2_A]; try rfl)
theorem before2_2 (c : Dev nD) (t : Fin cfg2.N) (d) : (dat2 W c).before 2 t d = iblk2 W c 2 t :=
  ((dat2 W c).before_in_eq_fetched 2 rfl (fun _ => rfl) (fun _ _ _ => rfl)
    (fun t => by rw [after2_2]; unfold Dat.blockOf iblk2; rw [dat2_A]; try rfl) t d).trans
    (by unfold Dat.fetched Dat.blockOf iblk2; rw [dat2_A]; try rfl)
theorem before2_3 (c : Dev nD) (t : Fin cfg2.N) (d) : (dat2 W c).before 3 t d = iblk2 W c 3 t :=
  ((dat2 W c).before_in_eq_fetched 3 rfl (fun _ => rfl) (fun _ _ _ => rfl)
    (fun t => by rw [after2_3]; unfold Dat.blockOf iblk2; rw [dat2_A]; try rfl) t d).trans
    (by unfold Dat.fetched Dat.blockOf iblk2; rw [dat2_A]; try rfl)
theorem before2_4 (c : Dev nD) (t : Fin cfg2.N) (d) : (dat2 W c).before 4 t d = iblk2 W c 4 t :=
  ((dat2 W c).before_in_eq_fetched 4 rfl (fun _ => rfl) (fun _ _ _ => rfl)
    (fun t => by rw [after2_4]; unfold Dat.blockOf iblk2; rw [dat2_A]; try rfl) t d).trans
    (by unfold Dat.fetched Dat.blockOf iblk2; rw [dat2_A]; try rfl)

/-! ## The body at every point -/

/-- Each block's current buffer at point `t`. -/
abbrev stg2 (t : Fin cfg2.N) (w : Fin cfg2.W) := (cfg2.win w).stage (cfg2.slots t w)

/-- A block that is never idle is left at the data's contents. -/
theorem leaves2 (c : Dev nD) (w : Fin cfg2.W) (t : Fin cfg2.N) (h : cfg2.idle w (grid2.coords t) = false) :
    (dat2 W c).leavesExact w t = owns (c : Thread nD τ) (stg2 t w) fullShare ((dat2 W c).after w t) := by
  unfold Dat.leavesExact; rw [h]

/-- What the body is called with at point `t`, -/
def pre2 (c : Dev nD) (t : Fin cfg2.N) : sProp 𝕄 :=
  iprop((dat2 W c).Φ t.castSucc ∗ (dat2 W c).owesAt () t.castSucc
    ∗ (∃ d, owns (c : Thread nD τ) (stg2 t 0) fullShare ((dat2 W c).before 0 t d))
    ∗ (∃ d, owns (c : Thread nD τ) (stg2 t 1) fullShare ((dat2 W c).before 1 t d))
    ∗ (∃ d, owns (c : Thread nD τ) (stg2 t 2) fullShare ((dat2 W c).before 2 t d))
    ∗ (∃ d, owns (c : Thread nD τ) (stg2 t 3) fullShare ((dat2 W c).before 3 t d))
    ∗ (∃ d, owns (c : Thread nD τ) (stg2 t 4) fullShare ((dat2 W c).before 4 t d))
    ∗ (∃ d, owns (c : Thread nD τ) (stg2 t 5) fullShare ((dat2 W c).before 5 t d))
    ∗ (∃ d, owns (c : Thread nD τ) (stg2 t 6) fullShare ((dat2 W c).before 6 t d))
    ∗ (∃ d, owns (c : Thread nD τ) (stg2 t 7) fullShare ((dat2 W c).before 7 t d)))

/-- and what it returns. -/
def post2 (c : Dev nD) (t : Fin cfg2.N) : sProp 𝕄 :=
  iprop((dat2 W c).Φ t.succ ∗ (dat2 W c).owesAt () t.succ
    ∗ (dat2 W c).leavesExact 0 t ∗ (dat2 W c).leavesExact 1 t ∗ (dat2 W c).leavesExact 2 t
    ∗ (dat2 W c).leavesExact 3 t ∗ (dat2 W c).leavesExact 4 t ∗ (dat2 W c).leavesExact 5 t
    ∗ (dat2 W c).leavesExact 6 t ∗ (dat2 W c).leavesExact 7 t)

set_option maxHeartbeats 4000000 in
/-- The body at any point, by the three cases. -/
theorem point2 (c : Dev nD) (t : Fin cfg2.N) :
    pre2 W c t ⊢ wp frame (wpE (defs₀ (F := F)) Variants.none c none) Set.univ (bodyAt2 t) (fun _ => post2 W c t) := by
  unfold pre2 post2 bodyAt2
  simp only [before2_0, before2_1, before2_2, before2_3, before2_4]
  rw [show (dat2 W c).owesAt () t.succ = (dat2 W c).owesAt () t.castSucc from rfl]
  rw [show (dat2 W c).Φ t.succ = inv2 W c (t.val + 1) from rfl, inv2_pos W c (Nat.succ_ne_zero _),
    show (dat2 W c).Φ t.castSucc = inv2 W c t.val from rfl]
  have hN : t.val < 25 := lt_of_lt_of_eq t.isLt (show cfg2.N = 25 from N_2)
  rw [leaves2 W c 0 t rfl, after2_0, leaves2 W c 1 t rfl, after2_1, leaves2 W c 2 t rfl, after2_2,
    leaves2 W c 3 t rfl, after2_3, leaves2 W c 4 t rfl, after2_4, leaves2 W c 5 t rfl, after2_5,
    leaves2 W c 6 t rfl, after2_6, acc2_succ]
  by_cases h0 : t.val = 0
  · have h1 : ¬isLast2 (grid2.coords t) := fun h => by have := (isLast2_iff t).mp h; omega
    obtain rfl : t = start2 := Fin.ext h0
    rw [Dat.leavesExact_idle (dat2 W c) 7 _ (idle2_sum _ h1) (noFlush2_sum _ h1)]
    rw [show inv2 W c (start2 : Fin cfg2.N).val = Pipeline.ΦA spec2 c from rfl, start2_eq,
      show acc2 W c (start2 : Fin cfg2.N).val = k2_pay1 (F := F) from rfl]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body2_first c (grid2.coords start2) _ _ _ _ _ _ _ _ _ _ _ _ _ _ _ _ _ (Memref.isWhole_whole _)
      (iblk2 W c 0 start2) (iblk2 W c 1 start2) (iblk2 W c 2 start2) (iblk2 W c 3 start2) (iblk2 W c 4 start2)
      ((isFirst2_iff start2).mpr rfl) h1 _ Set.univ _)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexact H7
    isplitl [HS0]; · iexact HS0
    iintro ⟨⟨H0, H1, H2, H3, H4⟩, H5, H6, H7, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hf : ¬isFirst2 (grid2.coords t) := fun h => h0 ((isFirst2_iff t).mp h)
    rw [inv2_pos W c h0]
    by_cases h1 : isLast2 (grid2.coords t)
    · rw [leaves2 W c 7 t (live2_sum t h1), after2_7, acc2_succ]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body2_last c (grid2.coords t) _ _ _ _ _ _ _ _ _ _ _ _ _ _ _ _ _ (Memref.isWhole_whole _)
        (iblk2 W c 0 t) (iblk2 W c 1 t) (iblk2 W c 2 t) (iblk2 W c 3 t) (iblk2 W c 4 t) hf h1 _ Set.univ _)
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [H6]; · iexists _; iexact H6
      isplitl [H7]; · iexists _; iexact H7
      isplitl [HS0]; · iexact HS0
      iintro ⟨⟨H0, H1, H2, H3, H4⟩, H5, H6, H7, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat2 W c) 7 t (idle2_sum t h1) (noFlush2_sum t h1)]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body2_middle c (grid2.coords t) _ _ _ _ _ _ _ _ _ _ _ _ _ _ _ _ _ (Memref.isWhole_whole _)
        (iblk2 W c 0 t) (iblk2 W c 1 t) (iblk2 W c 2 t) (iblk2 W c 3 t) (iblk2 W c 4 t) hf h1 _ _ Set.univ _)
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [H6]; · iexists _; iexact H6
      isplitl [H7]; · iexact H7
      isplitl [HS0]; · iexact HS0
      iintro ⟨⟨H0, H1, H2, H3, H4⟩, H5, H6, H7, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem row2 (t : Fin cfg2.N) : defs₀ (F := F) .tc cfg2.body (cfg2.bodyArgs t (cfg2.slots t)) = bodyAt2 t := by
  unfold defs₀; rw [Defs.onTc_tc]

/-- The body does what the data says at every point. -/
theorem obligation2 (c : Dev nD) : BodyObligation (dat2 (F := F) W c) (defs₀ (F := F)) Variants.none () Set.univ :=
  fun t => by
    rw [bigSep_W2, bigSep_W2, row2]
    exact triple_restated (point2 W c t) rfl .rfl fun _ => .rfl

/-- What the region is entered with is the state before the first point, -/
theorem enter2 (c : Dev nD) : Pipeline.ΦA spec2 c ⊢ (dat2 W c).Φ 0 := by
  rw [show (dat2 W c).Φ 0 = Pipeline.ΦA spec2 c from rfl]

/-- and the state after the last point gives it back. -/
theorem leave2 (c : Dev nD) : (dat2 W c).Φ (Fin.last cfg2.N) ⊢ Pipeline.ΦA spec2 c := by
  rw [show (dat2 W c).Φ (Fin.last cfg2.N) = inv2 W c (Fin.last cfg2.N).val from rfl,
    inv2_pos W c (by rw [Fin.val_last]; have : cfg2.N = 25 := N_2; omega), start2_eq]
  iintro ⟨⟨HS0, Hr⟩, Hg⟩
  isplitl [HS0 Hr]
  · isplitl [HS0]; · iexists _; iexact HS0
    iexact Hr
  iexact Hg

end Cert.KernelIdeal.Hand

end
-- ==== Proof.IdealRun.lean ====
/- The whole program: the reshapes of the three biases, then the three calls in order, each entered at what the one
   before it left. Every run ends with the arguments as they were, every semaphore at zero, and the result array at
   what the third call's data says. -/
module

public import proofs.«01_k».proof.Proof.IdealRegion0
public import proofs.«01_k».proof.Proof.IdealRegion1
public import proofs.«01_k».proof.Proof.IdealRegion2
public import proofs.«01_k».proof.Proof.Gen.KernelIdeal.Regions
public import Idealize.ShloMosaic.Lib.Pipeline.RegionArraysS

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold between the items -/

/-- After the reshapes, -/
abbrev W1 (c : Dev nD) : Valuation τ sig (Elt F) := V1 m c
/-- after the first call, -/
def W2 (c : Dev nD) : Valuation τ sig (Elt F) := Pipeline.afterRegion (dat0 (W1 m) c) (W1 m c)
/-- after the second, -/
def W3 (c : Dev nD) : Valuation τ sig (Elt F) := Pipeline.afterRegion (dat1 (W2 m) c) (W2 m c)
/-- and after the third. -/
def W4 (c : Dev nD) : Valuation τ sig (Elt F) := Pipeline.afterRegion (dat2 (W3 m) c) (W3 m c)

/-- Each call's data, at what it is entered with. -/
def data : (p : Fin 3) → (c : Dev nD) → Dat τ (Elt F) Unit ℕ (UR sig nD τ) ℕ (cfgs p) c
  | 0 => fun c => dat0 (W1 m) c
  | 1 => fun c => dat1 (W2 m) c
  | 2 => fun c => dat2 (W3 m) c

/-! ## The calls as segments -/

/-- Every counter of a core may be waited on; nothing is owed. -/
def lvls : GSem nD τ sig → Finset Unit := fun g => if g.1.2 = .tc then {()} else ∅
abbrev lv0 : GSem nD τ sig → Unit → ℕ := fun _ _ => 0

/-- What rides along: nothing owed, the generator register at some state. -/
abbrev ride (c : Dev nD) : sProp 𝕄 :=
  iprop((∃ Wd, owes (c : Thread nD τ) (0 : CellTallies nD τ sig Unit) Wd) ∗ (∃ r, prngReg c r) ∗ emp)

theorem cut (p : Fin 3) :
    Pipeline.LevelCut (pcfgs (F := F)) adm () lvls lv0 p (fun _ => 0) (fun _ => 0) where
  hι c w s := by simp [lvls]
  hιb c w s := le_rfl
  hD c g i h := absurd h (lt_irrefl _)

set_option backward.isDefEq.respectTransparency.types false in
/-- Call 0, entered with the buffers at `W1`. -/
def seg1 : RegionSeg (pcfgs (F := F)) adm (data m) () defs₀ Variants.none lvls lv0 0 :=
  RegionSeg.ofHeldIn _ _ _ _ _ _ _ _ 0 (fun _ => 0) (Pipeline.ucRefs τ sig) (fun c => iprop(∃ r, prngReg c r))
    (fun c => iprop(∃ r, prngReg c r)) launch0.toP rfl (fun c => (obligation0 (W1 m) c).loose) (fun _ _ => rfl)
    (fun _ => rfl) (fun c w => (dat0 (W1 m) c).share_full (fun _ => rfl) w) (fun c => enter0 (W1 m) c)
    (fun c => leave0 (W1 m) c) _ (cut 0) (fun _ => iprop(emp)) (W1 m) (fun c w => dat0_A (W1 m) c w)

set_option backward.isDefEq.respectTransparency.types false in
theorem entered1 (c : Dev nD) :
    iprop(StableHlo.held (c : Thread nD τ) (Pipeline.ucRefs τ sig) (W1 m c) ∗ ride (F := F) c) ⊢ (seg1 m).pre c :=
  RegionSeg.ofHeldIn_pre (pcs := pcfgs (F := F)) (a := adm) (pdats := data m) (ι := ()) (defs₀ := defs₀)
    (𝒱₀ := Variants.none) (L := lvls) (lv := lv0) (p := 0) (D := fun _ => 0)
    (Pipeline.arrRefs_sub_ucRefs spec0 winFacts0.arr_unscoped) (X := fun c => iprop(∃ r, prngReg c r))
    (Y := fun c => iprop(∃ r, prngReg c r)) (R := fun _ => iprop(emp)) (W := W1 m) c

set_option backward.isDefEq.respectTransparency.types false in
theorem left1 (c : Dev nD) :
    (seg1 m).post c ⊢ iprop(StableHlo.held (c : Thread nD τ) (Pipeline.ucRefs τ sig) (W2 m c) ∗ ride (F := F) c) :=
  RegionSeg.ofHeldIn_post (pcs := pcfgs (F := F)) (a := adm) (pdats := data m) (ι := ()) (defs₀ := defs₀)
    (𝒱₀ := Variants.none) (L := lvls) (lv := lv0) (p := 0) (D := fun _ => 0)
    (Pipeline.arrRefs_sub_ucRefs spec0 winFacts0.arr_unscoped) (X := fun c => iprop(∃ r, prngReg c r))
    (Y := fun c => iprop(∃ r, prngReg c r)) (R := fun _ => iprop(emp)) (W := W1 m) c

set_option backward.isDefEq.respectTransparency.types false in
/-- Call 1, entered with the buffers at `W2`. -/
def seg2 : RegionSeg (pcfgs (F := F)) adm (data m) () defs₀ Variants.none lvls lv0 1 :=
  RegionSeg.ofHeldIn _ _ _ _ _ _ _ _ 1 (fun _ => 0) (Pipeline.ucRefs τ sig) (fun c => iprop(∃ r, prngReg c r))
    (fun c => iprop(∃ r, prngReg c r)) launch1.toP rfl (fun c => (obligation1 (W2 m) c).loose) (fun _ _ => rfl)
    (fun _ => rfl) (fun c w => (dat1 (W2 m) c).share_full (fun _ => rfl) w) (fun c => enter1 (W2 m) c)
    (fun c => leave1 (W2 m) c) _ (cut 1) (fun _ => iprop(emp)) (W2 m) (fun c w => dat1_A (W2 m) c w)

set_option backward.isDefEq.respectTransparency.types false in
theorem entered2 (c : Dev nD) :
    iprop(StableHlo.held (c : Thread nD τ) (Pipeline.ucRefs τ sig) (W2 m c) ∗ ride (F := F) c) ⊢ (seg2 m).pre c :=
  RegionSeg.ofHeldIn_pre (pcs := pcfgs (F := F)) (a := adm) (pdats := data m) (ι := ()) (defs₀ := defs₀)
    (𝒱₀ := Variants.none) (L := lvls) (lv := lv0) (p := 1) (D := fun _ => 0)
    (Pipeline.arrRefs_sub_ucRefs spec1 winFacts1.arr_unscoped) (X := fun c => iprop(∃ r, prngReg c r))
    (Y := fun c => iprop(∃ r, prngReg c r)) (R := fun _ => iprop(emp)) (W := W2 m) c

set_option backward.isDefEq.respectTransparency.types false in
theorem left2 (c : Dev nD) :
    (seg2 m).post c ⊢ iprop(StableHlo.held (c : Thread nD τ) (Pipeline.ucRefs τ sig) (W3 m c) ∗ ride (F := F) c) :=
  RegionSeg.ofHeldIn_post (pcs := pcfgs (F := F)) (a := adm) (pdats := data m) (ι := ()) (defs₀ := defs₀)
    (𝒱₀ := Variants.none) (L := lvls) (lv := lv0) (p := 1) (D := fun _ => 0)
    (Pipeline.arrRefs_sub_ucRefs spec1 winFacts1.arr_unscoped) (X := fun c => iprop(∃ r, prngReg c r))
    (Y := fun c => iprop(∃ r, prngReg c r)) (R := fun _ => iprop(emp)) (W := W2 m) c

set_option backward.isDefEq.respectTransparency.types false in
/-- Call 2, entered with the buffers at `W3`. -/
def seg3 : RegionSeg (pcfgs (F := F)) adm (data m) () defs₀ Variants.none lvls lv0 2 :=
  RegionSeg.ofHeldIn _ _ _ _ _ _ _ _ 2 (fun _ => 0) (Pipeline.ucRefs τ sig) (fun c => iprop(∃ r, prngReg c r))
    (fun c => iprop(∃ r, prngReg c r)) launch2.toP rfl (fun c => (obligation2 (W3 m) c).loose) (fun _ _ => rfl)
    (fun _ => rfl) (fun c w => (dat2 (W3 m) c).share_full (fun _ => rfl) w) (fun c => enter2 (W3 m) c)
    (fun c => leave2 (W3 m) c) _ (cut 2) (fun _ => iprop(emp)) (W3 m) (fun c w => dat2_A (W3 m) c w)

set_option backward.isDefEq.respectTransparency.types false in
theorem entered3 (c : Dev nD) :
    iprop(StableHlo.held (c : Thread nD τ) (Pipeline.ucRefs τ sig) (W3 m c) ∗ ride (F := F) c) ⊢ (seg3 m).pre c :=
  RegionSeg.ofHeldIn_pre (pcs := pcfgs (F := F)) (a := adm) (pdats := data m) (ι := ()) (defs₀ := defs₀)
    (𝒱₀ := Variants.none) (L := lvls) (lv := lv0) (p := 2) (D := fun _ => 0)
    (Pipeline.arrRefs_sub_ucRefs spec2 winFacts2.arr_unscoped) (X := fun c => iprop(∃ r, prngReg c r))
    (Y := fun c => iprop(∃ r, prngReg c r)) (R := fun _ => iprop(emp)) (W := W3 m) c

set_option backward.isDefEq.respectTransparency.types false in
theorem left3 (c : Dev nD) :
    (seg3 m).post c ⊢ iprop(StableHlo.held (c : Thread nD τ) (Pipeline.ucRefs τ sig) (W4 m c) ∗ ride (F := F) c) :=
  RegionSeg.ofHeldIn_post (pcs := pcfgs (F := F)) (a := adm) (pdats := data m) (ι := ()) (defs₀ := defs₀)
    (𝒱₀ := Variants.none) (L := lvls) (lv := lv0) (p := 2) (D := fun _ => 0)
    (Pipeline.arrRefs_sub_ucRefs spec2 winFacts2.arr_unscoped) (X := fun c => iprop(∃ r, prngReg c r))
    (Y := fun c => iprop(∃ r, prngReg c r)) (R := fun _ => iprop(emp)) (W := W3 m) c

/-! ## What a call leaves alone -/

theorem W2_of (c : Dev nD) (r : Ref sig .tc) (h : r ∉ ([main_v3_0, main_v3_1, main_v3_2] : List (Ref sig .tc))) :
    W2 m c (Proc.devRef .tc r) = W1 m c (Proc.devRef .tc r) :=
  Pipeline.afterRegion_keeps _ _ winFacts0.arr_inj (dat0_A (W1 m) c) r fun w e =>
    (show ∀ w, Pipeline.arrRef spec0 w ∉ ([main_v3_0, main_v3_1, main_v3_2] : List (Ref sig .tc)) →
      (spec0 w).isOut = false by decide) w (e ▸ h)

/-- What call 0 leaves in the array of its window `w`. -/
theorem W2_arr (c : Dev nD) (w : Fin (cfgs 0).W) :
    W2 m c (Proc.devRef .tc (Pipeline.arrRef spec0 w)) = (dat0 (W1 m) c).arrAt w (cfgs 0).N :=
  Pipeline.afterRegion_arr _ _ winFacts0.arr_inj w

theorem W3_of (c : Dev nD) (r : Ref sig .tc) (h : r ∉ ([main_v4_0, main_v4_1, main_v4_2] : List (Ref sig .tc))) :
    W3 m c (Proc.devRef .tc r) = W2 m c (Proc.devRef .tc r) :=
  Pipeline.afterRegion_keeps _ _ winFacts1.arr_inj (dat1_A (W2 m) c) r fun w e =>
    (show ∀ w, Pipeline.arrRef spec1 w ∉ ([main_v4_0, main_v4_1, main_v4_2] : List (Ref sig .tc)) →
      (spec1 w).isOut = false by decide) w (e ▸ h)

/-- What call 1 leaves in the array of its window `w`. -/
theorem W3_arr (c : Dev nD) (w : Fin (cfgs 1).W) :
    W3 m c (Proc.devRef .tc (Pipeline.arrRef spec1 w)) = (dat1 (W2 m) c).arrAt w (cfgs 1).N :=
  Pipeline.afterRegion_arr _ _ winFacts1.arr_inj w

theorem W4_of (c : Dev nD) (r : Ref sig .tc) (h : r ∉ ([main_v5_0, main_v5_1, main_v5_2] : List (Ref sig .tc))) :
    W4 m c (Proc.devRef .tc r) = W3 m c (Proc.devRef .tc r) :=
  Pipeline.afterRegion_keeps _ _ winFacts2.arr_inj (dat2_A (W3 m) c) r fun w e =>
    (show ∀ w, Pipeline.arrRef spec2 w ∉ ([main_v5_0, main_v5_1, main_v5_2] : List (Ref sig .tc)) →
      (spec2 w).isOut = false by decide) w (e ▸ h)

/-- What call 2 leaves in the array of its window `w`. -/
theorem W4_arr (c : Dev nD) (w : Fin (cfgs 2).W) :
    W4 m c (Proc.devRef .tc (Pipeline.arrRef spec2 w)) = (dat2 (W3 m) c).arrAt w (cfgs 2).N :=
  Pipeline.afterRegion_arr _ _ winFacts2.arr_inj w

/-- A buffer that neither the reshapes nor a call writes ends as launched. -/
theorem W4_kept (c : Dev nD) (r : Ref sig .tc)
    (h : r ∉ ([main_v0, main_v1, main_v2, main_v3_0, main_v3_1, main_v3_2, main_v4_0, main_v4_1, main_v4_2, main_v5_0,
      main_v5_1, main_v5_2] : List (Ref sig .tc))) :
    W4 m c (Proc.devRef .tc r) = m ((c : Thread nD τ).loc r) := by
  simp only [List.mem_cons, List.not_mem_nil, or_false, not_or] at h
  obtain ⟨a, b, d, e, f, g, i, j, k, l, n, o⟩ := h
  rw [W4_of m c r (by simp [*]), W3_of m c r (by simp [*]), W2_of m c r (by simp [*])]
  exact V1_of m c r (by simp [*])

/-! ## The run -/

/-- The launch: the tokens of the calls' counters, nothing else owned. -/
theorem launched : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj)))
      ∗ bigSep Finset.univ (fun _ : Dev nD => (iprop(emp) : sProp 𝕄))) := by
  iintro Hu
  imodintro
  isplitl [Hu]
  · iapply (show (ownU _ : sProp 𝕄) ⊢ BI.own ((emb₁ : Emb _ 𝕄) (initOf (Pipeline.cells cfgs cellOf_inj) (Pipeline.launchToks cfgs cellOf_inj))) from .rfl)
    iexact Hu
  · iapply (show (BI.emp : sProp 𝕄) ⊢ bigSep Finset.univ (fun _ : Dev nD => (BI.emp : sProp 𝕄)) from by rw [BI.bigSep_emp_const])
    iempintro

set_option backward.isDefEq.respectTransparency.types false in
/-- Every run ends, with every buffer that outlives the calls at `W4` and every semaphore at zero. -/
theorem run :
    θ_run defs (onTc (τ := τ) (main (F := F))) ⟨m, fun _ => 0, ρ⟩ fun r =>
      (∀ c : Dev nD, ∀ b ∈ Pipeline.ucRefs τ sig, r.2.mem ((c : Thread nD τ).1, b) = W4 m c b) ∧ r.2.sem = fun _ => 0 := by
  refine Pipeline.θ_run_regions_kit_dev_sems (pcfgs (F := F)) adm (data m) () cellOf_inj emb₁ defs₀ Variants.none lvls lv0 m ρ main
    (segs m Variants.none lvls lv0 (fun _ => ride (F := F)) () (data m) (seg1 m) (seg2 m) (seg3 m))
    (fun c Q => by
      rewrite [main_chain c, Seg.run_eq_chain,
        show (segs m Variants.none lvls lv0 (fun _ => ride (F := F)) () (data m) (seg1 m) (seg2 m) (seg3 m) c).map Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (fun c => by simp only [segs, Seg.pipes_host, Seg.pipes_region, Seg.pipes_nil]; decide)
    0 (fun g hg => by simp [lvls, hg]) (fun _ => iprop(emp)) _ launched
    (T₀ := fun c => iprop(StableHlo.held (c : Thread nD τ) (Pipeline.ucRefs τ sig) (V0 m c) ∗ ride (F := F) c))
    (Tₙ := fun c => StableHlo.held (c : Thread nD τ) (Pipeline.ucRefs τ sig) (W4 m c))
    (hch := fun c => ⟨.rfl, entered1 m c, (left1 m c).trans (entered2 m c), (left2 m c).trans (entered3 m c),
      (left3 m c).trans (by
        iintro ⟨Hh, HO, -⟩
        isplitl [Hh] <;> iassumption)⟩)
    (hinit := ?_)
    (QY := fun c s => ∀ b ∈ Pipeline.ucRefs τ sig, s.mem ((c : Thread nD τ).1, b) = W4 m c b)
    (hfin := fun c s' => ?_)
    (hQ := fun _ h hz => ⟨h, funext fun g => hz g (.inr (regions_no_unscoped g.2))⟩)
  · refine Pipeline.initEach lvls lv0 fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    imodintro
    iexact Hr

/-- A buffer that outlives the calls, read off the end of a run. -/
theorem read_end {s : MemSt nD τ sig (Elt F)} {c : Dev nD}
    (h : ∀ b ∈ Pipeline.ucRefs τ sig, s.mem ((c : Thread nD τ).1, b) = W4 m c b) (r : Ref sig .tc) (hr : r.isScoped = false) :
    s.mem ((c : Thread nD τ).loc r) = W4 m c (Proc.devRef .tc r) :=
  h _ (Pipeline.devRef_mem_ucRefs hr)

end Cert.KernelIdeal.Hand

end
-- ==== Proof.Frames.lean ====
/- The frames: the kernel, at the bits and over the extended reals, and the reference end with their arguments as
   launched and every semaphore at zero. -/
module

public import proofs.«01_k».proof.Defs
public import proofs.«01_k».proof.Proof.BitsRun
public import proofs.«01_k».proof.Proof.IdealRun
public import proofs.«01_k».proof.Proof.Gen.ReferenceIdeal.Run
public import proofs.«01_k».proof.Proof.Gen.Pre_finite_weights
public import Idealize.ShloMosaic.Lib.Quiescent

@[expose] public section

noncomputable section

namespace Cert.Kernel.Hand

open Cert.Kernel.Gen
open Idealize.ShloMosaic Idealize.ShloMosaic.TcCoe Idealize.SL.Sem

variable {F : FTy → Type} [FloatOps F]
variable (m : (ℓ : Loc nD τ sig) → Buf (Elt F) ℓ)

/-- An argument's buffer, read off the end of a run. -/
theorem kept {s : MemSt nD τ sig (Elt F)} {c : Dev nD}
    (h : ∀ b ∈ Pipeline.ucRefs τ sig, s.mem ((c : Thread nD τ).1, b) = W4 m c b) (r : Ref sig .tc) (hr : r.isScoped = false)
    (hw : r ∉ ([main_v0, main_v1, main_v2, main_v3_0, main_v3_1, main_v3_2, main_v4_0, main_v4_1, main_v4_2, main_v5_0,
      main_v5_1, main_v5_2] : List (Ref sig .tc))) :
    s.mem ((c : Thread nD τ).loc r) = m ((c : Thread nD τ).loc r) :=
  (read_end m h r hr).trans (W4_kept m c r hw)

end Cert.Kernel.Hand

namespace Cert.KernelIdeal.Hand

open Cert.KernelIdeal.Gen
open Idealize.ShloMosaic Idealize.ShloMosaic.TcCoe Idealize.SL.Sem

variable {F : FTy → Type} [FloatOps F] [Named F]
variable (m : (ℓ : Loc nD τ sig) → Buf (Elt F) ℓ)

/-- An argument's buffer, read off the end of a run. -/
theorem kept {s : MemSt nD τ sig (Elt F)} {c : Dev nD}
    (h : ∀ b ∈ Pipeline.ucRefs τ sig, s.mem ((c : Thread nD τ).1, b) = W4 m c b) (r : Ref sig .tc) (hr : r.isScoped = false)
    (hw : r ∉ ([main_v0, main_v1, main_v2, main_v3_0, main_v3_1, main_v3_2, main_v4_0, main_v4_1, main_v4_2, main_v5_0,
      main_v5_1, main_v5_2] : List (Ref sig .tc))) :
    s.mem ((c : Thread nD τ).loc r) = m ((c : Thread nD τ).loc r) :=
  (read_end m h r hr).trans (W4_kept m c r hw)

end Cert.KernelIdeal.Hand

namespace Cert.Proof

open Idealize.ShloMosaic Idealize.SL.Sem

theorem frame_bits : quiescent_Kernel (hKernel := Cert.Kernel.Gen.facts) := fun m g _ =>
  (θ_run _ _ _).mono (fun r h => ⟨fun c => ⟨
      Cert.Kernel.Hand.kept m (h.1 c) Cert.Kernel.main_arg0 (by decide) (by decide),
      Cert.Kernel.Hand.kept m (h.1 c) Cert.Kernel.main_arg1 (by decide) (by decide),
      Cert.Kernel.Hand.kept m (h.1 c) Cert.Kernel.main_arg2 (by decide) (by decide),
      Cert.Kernel.Hand.kept m (h.1 c) Cert.Kernel.main_arg3 (by decide) (by decide),
      Cert.Kernel.Hand.kept m (h.1 c) Cert.Kernel.main_arg4 (by decide) (by decide),
      Cert.Kernel.Hand.kept m (h.1 c) Cert.Kernel.main_arg5 (by decide) (by decide),
      Cert.Kernel.Hand.kept m (h.1 c) Cert.Kernel.main_arg6 (by decide) (by decide),
      Cert.Kernel.Hand.kept m (h.1 c) Cert.Kernel.main_arg7 (by decide) (by decide)⟩, h.2⟩)
    (Cert.Kernel.Hand.run m g)

theorem frame_ideal : quiescent_KernelIdeal (hKernelIdeal := Cert.KernelIdeal.Gen.facts) := fun m g _ =>
  (θ_run _ _ _).mono (fun r h => ⟨fun c => ⟨
      Cert.KernelIdeal.Hand.kept m (h.1 c) Cert.KernelIdeal.main_arg0 (by decide) (by decide),
      Cert.KernelIdeal.Hand.kept m (h.1 c) Cert.KernelIdeal.main_arg1 (by decide) (by decide),
      Cert.KernelIdeal.Hand.kept m (h.1 c) Cert.KernelIdeal.main_arg2 (by decide) (by decide),
      Cert.KernelIdeal.Hand.kept m (h.1 c) Cert.KernelIdeal.main_arg3 (by decide) (by decide),
      Cert.KernelIdeal.Hand.kept m (h.1 c) Cert.KernelIdeal.main_arg4 (by decide) (by decide),
      Cert.KernelIdeal.Hand.kept m (h.1 c) Cert.KernelIdeal.main_arg5 (by decide) (by decide),
      Cert.KernelIdeal.Hand.kept m (h.1 c) Cert.KernelIdeal.main_arg6 (by decide) (by decide),
      Cert.KernelIdeal.Hand.kept m (h.1 c) Cert.KernelIdeal.main_arg7 (by decide) (by decide)⟩, h.2⟩)
    (Cert.KernelIdeal.Hand.run (F := Ideal) m g)

theorem frame_ideal_finite : quiescent_KernelIdeal_pre_finite_weights (hKernelIdeal := Cert.KernelIdeal.Gen.facts)
    (hPre_finite_weights := Cert.Pre_finite_weights.Gen.facts) := fun m g _ => frame_ideal m g trivial

theorem frame_reference : quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

theorem frame_reference_finite : quiescent_ReferenceIdeal_pre_finite_weights
    (hReferenceIdeal := Cert.ReferenceIdeal.Gen.facts) (hPre_finite_weights := Cert.Pre_finite_weights.Gen.facts) :=
  fun m g _ => frame_reference m g trivial

/-- The two named constants are what they are printed from, to the last place of the format. -/
theorem constants : preserves_Kernel_KernelIdeal :=
  ⟨IdealRules.named_const.statement _ _ _ _ _ rfl, IdealRules.named_const.statement _ _ _ _ _ rfl⟩

end Cert.Proof

end
-- ==== Proof.Quantizer.lean ====
/- The 8-bit codes of a real matrix, and one layer of the network computed from them.

   An element `a` of the matrix is stored as `round (255 a)`, cut to the integers 0 … 255. The kernel keeps the code less
   128, so that it fits a signed byte, and puts the 128 back as a multiple of the column sums. -/
module

public import Idealize.ShloMosaic.PureOps.Ideal
public import Idealize.ShloMosaic.PureOps.Ideal.Laws

@[expose] public section

noncomputable section

namespace Cert.Quantizer

open Idealize.ShloMosaic

/-- To the nearest integer, ties to even; an infinity stays. -/
abbrev rnd : EReal → EReal := Ideal.liftRound Ideal.roundHalfEven

/-- The code of an element: an integer between 0 and 255, as an extended real. -/
def code (a : EReal) : EReal := min 255 (max 0 (rnd (a * 255)))

/-- The signed byte the kernel stores for an element. -/
def stored (a : EReal) : BitVec 8 := Ideal.fptosi 8 (rnd (a * 255) - 128)

/-- A byte that holds an integer of its range reads back as that integer. -/
theorem toInt_ofInt_byte {n : ℤ} (h0 : -128 ≤ n) (h1 : n ≤ 127) : (BitVec.ofInt 8 n).toInt = n := by
  rw [BitVec.toInt_ofInt]
  unfold Int.bmod
  dsimp only
  split <;> omega

/-- The stored byte is the code less 128, at every extended real. -/
theorem code_stored (a : EReal) : ∃ n : ℤ, code a = ((n : ℝ) : EReal) ∧ (stored a).toInt = n - 128 := by
  unfold code stored
  induction h : rnd (a * 255) with
  | bot =>
    refine ⟨0, by simp, ?_⟩
    have : Ideal.fptosi 8 (⊥ - 128 : EReal) = BitVec.ofInt 8 (-128) := by
      rw [EReal.bot_sub]; rfl
    rw [this]; rfl
  | top =>
    refine ⟨255, by simp; rfl, ?_⟩
    have : (⊤ - 128 : EReal) = ⊤ := EReal.top_sub_coe 128
    rw [this]; rfl
  | coe r =>
    obtain ⟨n, rfl⟩ : ∃ n : ℤ, r = n := by
      revert h
      induction a * 255 with
      | bot => intro h; exact absurd h (EReal.bot_ne_coe r)
      | top => intro h; exact absurd h (EReal.top_ne_coe r)
      | coe x => intro h; exact ⟨_, (EReal.coe_eq_coe_iff.mp h).symm⟩
    refine ⟨min 255 (max 0 n), ?_, ?_⟩
    · push_cast
      rw [EReal.coe_strictMono.monotone.map_min, EReal.coe_strictMono.monotone.map_max]
      rfl
    · have e : (((n : ℝ) : EReal) - 128) = (((n - 128 : ℤ) : ℝ) : EReal) := by
        push_cast; rfl
      have f : Ideal.toIntClamped (-(2 ^ (8 - 1) : Nat)) ((2 ^ (8 - 1) : Nat) - 1) (((n - 128 : ℤ) : ℝ) : EReal)
          = max (-128) (min 127 (n - 128)) := by
        show max _ (min _ (if _ then _ else _)) = _
        rw [Int.floor_intCast, Int.ceil_intCast, ite_self]
        norm_num
      rw [e, Ideal.fptosi, f, toInt_ofInt_byte (by omega) (by omega)]
      omega

/-- A value that is a real number. -/
def Real' (x : EReal) : Prop := ∃ r : ℝ, x = (r : EReal)

theorem Real'.add {x y : EReal} : Real' x → Real' y → Real' (x + y) := by
  rintro ⟨r, rfl⟩ ⟨s, rfl⟩; exact ⟨r + s, (EReal.coe_add r s).symm⟩

theorem Real'.mul {x y : EReal} : Real' x → Real' y → Real' (x * y) := by
  rintro ⟨r, rfl⟩ ⟨s, rfl⟩; exact ⟨r * s, (EReal.coe_mul r s).symm⟩

theorem Real'.max_zero {x : EReal} : Real' x → Real' (max x 0) := by
  rintro ⟨r, rfl⟩; exact ⟨max r 0, (EReal.coe_strictMono.monotone.map_max (a := r) (b := 0)).symm⟩

theorem Real'.sum {ι : Type} (s : Finset ι) {f : ι → EReal} (h : ∀ i, Real' (f i)) : Real' (∑ i ∈ s, f i) := by
  choose g hg using h
  exact ⟨∑ i ∈ s, g i, by simp only [hg]; exact (map_sum (⟨⟨fun x : ℝ => (x : EReal), rfl⟩, EReal.coe_add⟩ : ℝ →+ EReal) g s).symm⟩

theorem Real'.code (a : EReal) : Real' (code a) := by
  obtain ⟨n, h, -⟩ := code_stored a; exact ⟨n, h⟩

theorem Real'.div255 {x : EReal} : Real' x → Real' (Ideal.div x ((255 : ℝ) : EReal)) := fun h => by
  rw [Ideal.div_coe (by norm_num)]; exact h.mul ⟨_, rfl⟩

/-- One row of a layer. The sum over the stored bytes, scaled by `1/255`, with `128/255` of the sum of `s` and the bias
    added, is the sum over the codes divided by 255 with the bias added, wherever `s` is real. -/
theorem layer {ι : Type} [Fintype ι] (a s : ι → EReal) (b : EReal) (hs : ∀ i, Real' (s i)) :
    (∑ i, (((stored (a i)).toInt : ℝ) : EReal) * s i) * ((1 / 255 : ℝ) : EReal) + (((128 / 255 : ℝ) : EReal) * (∑ i, s i) + b)
      = (∑ i, Ideal.div (code (a i)) ((255 : ℝ) : EReal) * s i) + b := by
  choose n hn hk using fun i => code_stored (a i)
  choose r hr using hs
  have coeSum : ∀ g : ι → ℝ, ∑ i, (g i : EReal) = ((∑ i, g i : ℝ) : EReal) := fun g =>
    (map_sum (⟨⟨fun x : ℝ => (x : EReal), rfl⟩, EReal.coe_add⟩ : ℝ →+ EReal) g Finset.univ).symm
  simp only [hk, hn, hr, Ideal.div_coe (show (255 : ℝ) ≠ 0 by norm_num), ← EReal.coe_mul, coeSum]
  rw [← add_assoc, ← EReal.coe_add]
  congr 2
  rw [Finset.sum_mul, Finset.mul_sum, ← Finset.sum_add_distrib]
  refine Finset.sum_congr rfl fun i _ => ?_
  push_cast
  ring

end Cert.Quantizer

end

end
-- ==== Proof.FiniteArgs.lean ====
/- The precondition read back: every element of the arguments it names is a real number. -/
module

public import proofs.«01_k».proof.Pre_finite_weights
public import proofs.«01_k».proof.Proof.Gen.Pre_finite_weights
public import proofs.«01_k».proof.Proof.Quantizer
public import Idealize.ShloMosaic.Lib.ReduceAll
public import Idealize.ShloMosaic.Lib.Pipeline.Value

@[expose] public section

noncomputable section

namespace Cert.Pre_finite_weights.Meaning

open Cert.Quantizer
open Idealize.ShloMosaic

theorem inf_word : (FloatOps.ofBits (F := Ideal) .f32 0x7F800000#32) = (⊤ : EReal) := by
  show Ideal.ofBits .f32 0x7F800000#32 = _
  simp [Ideal.ofBits, Ideal.ieee]

/-- An absolute value below infinity is that of a real number. -/
theorem real_of_abs_lt {x : EReal} (h : max x (-x) < ⊤) : Real' x := by
  induction x with
  | bot => simp at h
  | top => simp at h
  | coe r => exact ⟨r, rfl⟩

instance : Subsingleton S_.Idx := ⟨fun i j => funext fun a => a.elim0⟩

/-- One argument's conjunct. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : Real' (x i) := by
  have h := Host.reduce_andi_all _ _ hr hu j e i
  have hc : broadcastInDim s ![] hb (constant (F := Ideal) S_ .f32 0x7F800000#32) i = (⊤ : EReal) :=
    (broadcastInDim_apply _ hb _ i (fun a => a.elim0) (fun a => a.elim0)).trans inf_word
  have h' : Ideal.cmp .olt (max (x i) (-(x i))) (broadcastInDim s ![] hb (constant (F := Ideal) S_ .f32 0x7F800000#32) i) = 1#1 := h
  rw [hc] at h'
  refine real_of_abs_lt ?_
  by_contra hn
  simp [Ideal.cmp, hn] at h'

theorem and_ones {a b : IVec S_ 1} {j : S_.Idx} (h : andi a b j = 1#1) : a j = 1#1 ∧ b j = 1#1 :=
  IntOp.andi_eq_one.1 h

variable {x0 : FVec Ideal S10000x128 .f32} {x1 : FVec Ideal S10000x10000 .f32} {x2 : FVec Ideal S128x32 .f32} {x3 : FVec Ideal S32 .f32}
  {x4 : FVec Ideal S32x32 .f32} {x5 : FVec Ideal S32 .f32} {x6 : FVec Ideal S32x16 .f32} {x7 : FVec Ideal S16 .f32}

attribute [local instance] Cert.Pre_finite_weights.Gen.facts in
theorem real_args (h : ∀ j, fn (F := Ideal) x0 x1 x2 x3 x4 x5 x6 x7 j = 1#1) :
    (∀ i, Real' (x0 i)) ∧ (∀ i, Real' (x1 i)) ∧ (∀ i, Real' (x2 i)) ∧ (∀ i, Real' (x3 i)) ∧ (∀ i, Real' (x4 i)) ∧ (∀ i, Real' (x5 i))
      ∧ (∀ i, Real' (x6 i)) := by
  have j : S_.Idx := fun a => a.elim0
  have h := h j
  unfold fn fn_part1 at h
  obtain ⟨h, h6⟩ := and_ones h
  obtain ⟨h, h5⟩ := and_ones h
  obtain ⟨h, h4⟩ := and_ones h
  obtain ⟨h, h3⟩ := and_ones h
  obtain ⟨h, h2⟩ := and_ones h
  obtain ⟨h0, h1⟩ := and_ones h
  exact ⟨all_real x0 _ _ _ j h0, all_real x1 _ _ _ j h1, all_real x2 _ _ _ j h2, all_real x3 _ _ _ j h3, all_real x4 _ _ _ j h4,
    all_real x5 _ _ _ j h5, all_real x6 _ _ _ j h6⟩

end Cert.Pre_finite_weights.Meaning

end

end
-- ==== Proof.IdealPayload.lean ====
/- What the three kernels compute at a grid point, over the extended reals, element by element. -/
module

public import proofs.«01_k».proof.Proof.Gen.KernelIdeal.Skeleton
public import proofs.«01_k».proof.Proof.Quantizer
public import Idealize.ShloMosaic.Lib.MatmulPlain
public import Idealize.ShloMosaic.Lib.ValueIdx
public import Idealize.ShloMosaic.Lib.Pipeline.Value

@[expose] public section

noncomputable section

namespace Cert.KernelIdeal.Hand

open Cert.KernelIdeal.Gen Cert.Quantizer
open Idealize.ShloMosaic Idealize.ShloMosaic.ValueIdx

/-! ## The constants -/

theorem zero_word : (FloatOps.ofBits (F := Ideal) .f32 0x00000000#32) = (0 : EReal) := Ideal.ofBits_zero_f32

theorem word255 : (FloatOps.ofBits (F := Ideal) .f32 0x437F0000#32) = (255 : EReal) := by
  show Ideal.ofBits .f32 0x437F0000#32 = _
  simp [Ideal.ofBits, Ideal.ieee]
  rw [← EReal.coe_mul]
  exact congrArg Real.toEReal (by norm_num : (_ : ℝ) = 255)

theorem word128 : (FloatOps.ofBits (F := Ideal) .f32 0x43000000#32) = (128 : EReal) := by
  show Ideal.ofBits .f32 0x43000000#32 = _
  simp [Ideal.ofBits, Ideal.ieee]
  rw [← EReal.coe_mul]
  exact congrArg Real.toEReal (by norm_num : (_ : ℝ) = 128)

theorem named_ca : (Named.named (F := Ideal) (φ := .f32) κ "ca" 0x3B808081#32) = ((1 / 255 : ℝ) : EReal) := rfl

theorem named_za : (Named.named (F := Ideal) (φ := .f32) κ "za" 0x3F008081#32) = ((128 / 255 : ℝ) : EReal) := rfl

/-! ## The shapes the payloads share -/

/-- A product onto a zero accumulator. -/
theorem product_apply {M K N : ℕ} {φ₁ φ₂ : FTy} (d : DotDims ⟨2, ![M, K]⟩ ⟨2, ![K, N]⟩ ⟨2, ![M, N]⟩) (hd : d = DotDims.plain M K N)
    (x : FVec Ideal ⟨2, ![M, K]⟩ φ₁) (y : FVec Ideal ⟨2, ![K, N]⟩ φ₂) (r : Fin M) (c : Fin N) :
    matmul d none x y (constant ⟨2, ![M, N]⟩ .f32 0x00000000#32) (ix2 r c) = ∑ k : Fin K, x (ix2 r k) * y (ix2 k c) := by
  subst hd
  show FloatOps.matmul (F := Ideal) _ _ _ _ _ _ = _
  rw [Ideal.matmul_plain_apply]
  show FloatOps.ofBits (F := Ideal) .f32 0x00000000#32 + _ = _
  rw [zero_word, zero_add]

/-- A row of biases read at any row of the block. -/
theorem rows_apply {M N : ℕ} (h1 : N ≠ 1) (v : (⟨2, ![1, N]⟩ : Shape).Idx → EReal) (h : (⟨2, ![1, N]⟩ : Shape).Broadcasts ⟨2, ![M, N]⟩) (r : Fin M) (c : Fin N) :
    broadcastTo ⟨2, ![M, N]⟩ v h (ix2 r c) = v (ix2 0 c) := by
  refine broadcastTo_apply v h _ _ fun a => ?_
  match a with
  | ⟨0, _⟩ => rfl
  | ⟨1, _⟩ => exact (if_neg h1).symm

/-- The column sums of a block, read in their row. -/
theorem colsum_apply {M N : ℕ} (x : FVec Ideal ⟨2, ![M, N]⟩ .f32) (h : (⟨2, ![M, N]⟩ : Shape).Reduces [0] ⟨1, ![N]⟩)
    (hc : (⟨1, ![N]⟩ : Shape).ShapeCasts ⟨2, ![1, N]⟩) (hφ : FKind.Formats .f32) (e : 0x00000000#32 = FKind.add.neutral .f32 hφ) (c : Fin N) :
    shapeCast ⟨2, ![1, N]⟩ (multiReduction .add [0] ⟨1, ![N]⟩ x 0x00000000#32 h hφ e) hc (ix2 0 c) = ∑ r : Fin M, x (ix2 r c) := by
  refine (shapeCast_addUnit_apply ![N] _ hc _).trans ?_
  refine (Ideal.multiReduction_add_single x _ h hφ e _).trans ?_
  refine Finset.sum_congr rfl fun k _ => congrArg x ?_
  funext a
  match a with
  | ⟨0, _⟩ => rfl
  | ⟨1, _⟩ => rfl

/-! ## The 10000 rows in 25 blocks of 400 -/

/-- The row of the whole matrix that is row `r` of the block at point `t`. -/
def row (t : Fin 25) (r : Fin 400) : Fin 10000 := ⟨t.val * 400 + r.val, by omega⟩

/-- A sum over the rows, block by block. -/
theorem sum_rows (f : Fin 10000 → EReal) : ∑ t : Fin 25, ∑ r : Fin 400, f (row t r) = ∑ i : Fin 10000, f i := by
  rw [← Fintype.sum_prod_type' (fun t r => f (row t r))]
  refine Fintype.sum_equiv (finProdFinEquiv (m := 25) (n := 400)) _ _ fun p => congrArg f (Fin.ext ?_)
  show p.1.val * 400 + p.2.val = p.2.val + 400 * p.1.val
  omega

/-- What a running sum has reached after 25 steps. -/
theorem running (a : ℕ → EReal) (g : Fin 25 → EReal) (h0 : a 0 = 0) (hs : ∀ t : Fin 25, a (t.val + 1) = a t.val + g t) :
    a 25 = ∑ t : Fin 25, g t := by
  have key : ∀ n : ℕ, n ≤ 25 → a n = ∑ t ∈ Finset.range n, if h : t < 25 then g ⟨t, h⟩ else 0 := by
    intro n
    induction n with
    | zero => intro _; rw [h0, Finset.sum_range_zero]
    | succ n ih => intro hn; rw [hs ⟨n, hn⟩, ih (by omega), Finset.sum_range_succ, dif_pos (show n < 25 from hn)]
  rw [key 25 le_rfl, Finset.sum_range]
  exact Finset.sum_congr rfl fun t _ => dif_pos t.isLt

/-! ## The first kernel -/

theorem k0_pay1_apply (x : FVec Ideal S10000x128 .f32) (w : FVec Ideal S128x32 .f32) (r : Fin 10000) (k : Fin 32) :
    k0_pay1 (F := Ideal) x w (ix2 r k) = ∑ j : Fin 128, x (ix2 r j) * w (ix2 j k) := by
  unfold k0_pay1
  rw [shapeCast_self]
  exact product_apply _ rfl x w r k

theorem k0_pay2_apply (i : S1x32.Idx) : (k0_pay2 (F := Ideal)) i = (0 : EReal) := by
  unfold k0_pay2
  rw [shapeCast_self]
  exact zero_word

theorem k0_pay3_apply (a : FVec Ideal S400x10000 .f32) (i : S400x10000.Idx) : k0_pay3 (F := Ideal) a i = stored (a i) := by
  show Ideal.fptosi 8 (rnd (a i * FloatOps.ofBits (F := Ideal) .f32 0x437F0000#32) - FloatOps.ofBits (F := Ideal) .f32 0x43000000#32) = _
  rw [word255, word128, stored]

theorem k0_pay4_apply (a : FVec Ideal S400x10000 .f32) (s : FVec Ideal S10000x32 .f32) (b : FVec Ideal S1x32 .f32) (w : FVec Ideal S32x32 .f32)
    (r : Fin 400) (k : Fin 32) :
    k0_pay4 (F := Ideal) a s b w (ix2 r k) = ∑ j : Fin 32, max ((∑ l : Fin 10000, a (ix2 r l) * s (ix2 l j)) + b (ix2 0 j)) 0 * w (ix2 j k) := by
  unfold k0_pay4
  refine (product_apply _ rfl _ w r k).trans ?_
  refine Finset.sum_congr rfl fun j _ => ?_
  refine congrArg (fun z : EReal => z * w (ix2 j k)) ?_
  rw [maximumf_apply, addf_apply, broadcast_apply]
  rw [shapeCast_self, rows_apply (by decide), product_apply dot_S400x10000_S10000x32_S400x32_1_0_0_1_n_n rfl]
  exact congrArg (max _) zero_word

theorem k0_pay5_apply (a : FVec Ideal S400x10000 .f32) (s : FVec Ideal S10000x32 .f32) (b : FVec Ideal S1x32 .f32) (w : FVec Ideal S32x32 .f32)
    (i : S400x32.Idx) : k0_pay5 (F := Ideal) a s b w i = (k0_pay4 (F := Ideal) a s b w i : EReal) := rfl

theorem k0_pay6_apply (a : FVec Ideal S400x10000 .f32) (s : FVec Ideal S10000x32 .f32) (b : FVec Ideal S1x32 .f32) (w : FVec Ideal S32x32 .f32)
    (acc : FVec Ideal S1x32 .f32) (k : Fin 32) :
    k0_pay6 (F := Ideal) a s b w acc (ix2 0 k) = acc (ix2 0 k) + ∑ r : Fin 400, k0_pay4 (F := Ideal) a s b w (ix2 r k) := by
  unfold k0_pay6
  rw [shapeCast_self, addf_apply]
  exact congrArg (_ + ·) (colsum_apply _ _ _ _ _ k)

/-- The second layer's input: the first layer's output times the second layer's weights. -/
def first (x : S10000x128.Idx → EReal) (a : S10000x10000.Idx → EReal) (w : S128x32.Idx → EReal) (b : S1x32.Idx → EReal)
    (v : S32x32.Idx → EReal) (r : Fin 10000) (k : Fin 32) : EReal :=
  ∑ j : Fin 32, max ((∑ l : Fin 10000, a (ix2 r l) * (∑ i : Fin 128, x (ix2 l i) * w (ix2 i j))) + b (ix2 0 j)) 0 * v (ix2 j k)

/-! ## The second and the third -/

/-- An element of a layer before its nonlinearity, as the kernels compute it from the stored bytes `q`, the layer's
    input `s`, its column sums `cs` and the bias `b`. -/
def pre {N : ℕ} (q : Fin 10000 → BitVec 8) (s : Fin 10000 → Fin N → EReal) (cs b : Fin N → EReal) (j : Fin N) : EReal :=
  (∑ l : Fin 10000, (((q l).toInt : ℝ) : EReal) * s l j) * ((1 / 255 : ℝ) : EReal) + (((128 / 255 : ℝ) : EReal) * cs j + b j)

/-- The third layer's input: the second layer's output times the third layer's weights. -/
def second (q : S10000x10000.Idx → BitVec 8) (s : S10000x32.Idx → EReal) (cs b : S1x32.Idx → EReal) (w : S32x16.Idx → EReal)
    (r : Fin 10000) (k : Fin 16) : EReal :=
  ∑ j : Fin 32, max (pre (fun l => q (ix2 r l)) (fun l j => s (ix2 l j)) (fun j => cs (ix2 0 j)) (fun j => b (ix2 0 j)) j) 0 * w (ix2 j k)

/-- The third layer's output. -/
def third (q : S10000x10000.Idx → BitVec 8) (s : S10000x16.Idx → EReal) (cs b : S1x16.Idx → EReal) (r : Fin 10000) (k : Fin 16) : EReal :=
  pre (fun l => q (ix2 r l)) (fun l j => s (ix2 l j)) (fun j => cs (ix2 0 j)) (fun j => b (ix2 0 j)) k

theorem k1_pay3_apply (q : IVec S400x10000 8) (s : FVec Ideal S10000x32 .bf16) (cs b : FVec Ideal S1x32 .f32) (w : FVec Ideal S32x16 .f32)
    (r : Fin 400) (k : Fin 16) :
    k1_pay3 (F := Ideal) q s cs b w (ix2 r k)
      = ∑ j : Fin 32, max (pre (fun l => q (ix2 r l)) (fun l j => s (ix2 l j)) (fun j => cs (ix2 0 j)) (fun j => b (ix2 0 j)) j) 0 * w (ix2 j k) := by
  unfold k1_pay3
  refine (product_apply _ rfl _ w r k).trans ?_
  refine Finset.sum_congr rfl fun j _ => ?_
  refine congrArg (fun z : EReal => z * w (ix2 j k)) ?_
  simp only [shapeCast_self]
  rw [maximumf_apply, addf_apply, broadcast_apply, mulf_apply, broadcast_apply, rows_apply (by decide), addf_apply, mulf_apply,
    broadcast_apply, named_ca, named_za, product_apply dot_S400x10000_S10000x32_S400x32_1_0_0_1_n_n rfl]
  exact congrArg (max _) zero_word

theorem k1_pay4_apply (q : IVec S400x10000 8) (s : FVec Ideal S10000x32 .bf16) (cs b : FVec Ideal S1x32 .f32) (w : FVec Ideal S32x16 .f32)
    (i : S400x16.Idx) : k1_pay4 (F := Ideal) q s cs b w i = (k1_pay3 (F := Ideal) q s cs b w i : EReal) := rfl

theorem k1_pay2_apply (i : S1x16.Idx) : (k1_pay2 (F := Ideal)) i = (0 : EReal) := by
  unfold k1_pay2
  rw [shapeCast_self]
  exact zero_word

theorem k1_pay1_apply (v : FVec Ideal S1x16 .f32) : k1_pay1 v = v := by
  unfold k1_pay1
  exact shapeCast_self _ _

theorem k1_pay5_apply (q : IVec S400x10000 8) (s : FVec Ideal S10000x32 .bf16) (cs b : FVec Ideal S1x32 .f32) (w : FVec Ideal S32x16 .f32)
    (acc : FVec Ideal S1x16 .f32) (k : Fin 16) :
    k1_pay5 (F := Ideal) q s cs b w acc (ix2 0 k) = acc (ix2 0 k) + ∑ r : Fin 400, k1_pay3 (F := Ideal) q s cs b w (ix2 r k) := by
  unfold k1_pay5
  rw [addf_apply]
  exact congrArg (_ + ·) (colsum_apply _ _ _ _ _ k)

theorem k2_pay2_apply (q : IVec S400x10000 8) (s : FVec Ideal S10000x16 .bf16) (cs b : FVec Ideal S1x16 .f32) (r : Fin 400) (j : Fin 16) :
    k2_pay2 (F := Ideal) q s cs b (ix2 r j) = pre (fun l => q (ix2 r l)) (fun l j => s (ix2 l j)) (fun j => cs (ix2 0 j)) (fun j => b (ix2 0 j)) j := by
  unfold k2_pay2
  simp only [shapeCast_self]
  rw [addf_apply, mulf_apply, broadcast_apply, rows_apply (by decide), addf_apply, mulf_apply,
    broadcast_apply, named_ca, named_za, product_apply dot_S400x10000_S10000x16_S400x16_1_0_0_1_n_n rfl]
  rfl

end Cert.KernelIdeal.Hand

end

end
-- ==== Proof.IdealValue0.lean ====
/- What the first call leaves in its three result arrays, over the extended reals, as functions of the arrays it reads. -/
module

public import proofs.«01_k».proof.Proof.IdealRegion0
public import proofs.«01_k».proof.Proof.IdealPayload
public import Idealize.ShloMosaic.Lib.Pipeline.ValueKit.Geometry

@[expose] public section

set_option maxRecDepth 16384

noncomputable section

namespace Cert.KernelIdeal.Hand

open Cert.KernelIdeal.Gen Cert.Quantizer
open Idealize.ShloMosaic Idealize.ShloMosaic.TcCoe Idealize.ShloMosaic.Tactic Idealize.ShloMosaic.ValueIdx
open Idealize.ShloMosaic.Pipeline (Dat Cfg Window)

variable (W : Dev nD → Valuation τ sig (Elt Ideal)) (c : Dev nD)

/-! ## The blocks -/

theorem at0_0 : ∀ t : Fin cfg0.N, win0_0.index t = ![0, 0] := (by decide +kernel : ∀ t : Fin grid0.N, _)
theorem at0_1 : ∀ t : Fin cfg0.N, win0_1.index t = ![t.val, 0] := (by decide +kernel : ∀ t : Fin grid0.N, _)
theorem at0_2 : ∀ t : Fin cfg0.N, win0_2.index t = ![0, 0] := (by decide +kernel : ∀ t : Fin grid0.N, _)
theorem at0_3 : ∀ t : Fin cfg0.N, win0_3.index t = ![0, 0] := (by decide +kernel : ∀ t : Fin grid0.N, _)
theorem at0_4 : ∀ t : Fin cfg0.N, win0_4.index t = ![0, 0] := (by decide +kernel : ∀ t : Fin grid0.N, _)
theorem at0_5 : ∀ t : Fin cfg0.N, win0_5.index t = ![t.val, 0] := (by decide +kernel : ∀ t : Fin grid0.N, _)
theorem at0_7 : ∀ t : Fin cfg0.N, win0_7.index t = ![t.val, 0] := (by decide +kernel : ∀ t : Fin grid0.N, _)

theorem blk0_0 (t : Fin cfg0.N) : iblk0 W c 0 t = W c (Proc.devRef .tc main_arg0) := by
  funext y
  blk_simp [iblk0]
  congr 1
  blk_ext [at0_0 t]
theorem blk0_1 (t : Fin cfg0.N) (r : Fin 400) (l : Fin 10000) :
    iblk0 W c 1 t (ix2 r l) = W c (Proc.devRef .tc main_arg1) (ix2 (row t r) l) := by
  blk_simp [iblk0]
  congr 1
  blk_ext [at0_1 t, row]
theorem blk0_2 (t : Fin cfg0.N) : iblk0 W c 2 t = W c (Proc.devRef .tc main_arg2) := by
  funext y
  blk_simp [iblk0]
  congr 1
  blk_ext [at0_2 t]
theorem blk0_3 (t : Fin cfg0.N) : iblk0 W c 3 t = W c (Proc.devRef .tc main_v0) := by
  funext y
  blk_simp [iblk0]
  congr 1
  blk_ext [at0_3 t]
theorem blk0_4 (t : Fin cfg0.N) : iblk0 W c 4 t = W c (Proc.devRef .tc main_arg4) := by
  funext y
  blk_simp [iblk0]
  congr 1
  blk_ext [at0_4 t]

/-! ## The arrays at the end -/

/-- The rows of the first result. -/
def rows0 (r : Fin 10000) (k : Fin 32) : EReal :=
  first (W c (Proc.devRef .tc main_arg0)) (W c (Proc.devRef .tc main_arg1)) (W c (Proc.devRef .tc main_arg2))
    (W c (Proc.devRef .tc main_v0)) (W c (Proc.devRef .tc main_arg4)) r k

theorem block0 (t : Fin cfg0.N) (r : Fin 400) (k : Fin 32) :
    k0_pay4 (F := Ideal) (iblk0 W c 1 t) (proj0 W c) (iblk0 W c 3 t) (iblk0 W c 4 t) (ix2 r k) = rows0 W c (row t r) k := by
  rw [k0_pay4_apply, rows0, first, blk0_3, blk0_4]
  refine Finset.sum_congr rfl fun j _ => ?_
  refine congrArg (fun z : EReal => max (z + _) 0 * _) (Finset.sum_congr rfl fun l _ => ?_)
  refine congrArg₂ (fun p q : EReal => p * q) (blk0_1 W c t r l) ?_
  rw [proj0, k0_pay1_apply, blk0_0, blk0_2]

theorem out0_5 : (dat0 W c).arrAt 5 cfg0.N = fun i => rows0 W c (i 0) (i 1) := by
  refine (dat0 W c).arrAt_eq_of_covers 5 _ (by decide +kernel) fun t hf y => ?_
  blk_simp
  rw [after0_5]
  obtain ⟨r, k, rfl⟩ : ∃ (r : Fin 400) (k : Fin 32), y = ix2 r k := ⟨y 0, y 1, eq_ix2 y⟩
  refine (block0 W c t r k).trans ?_
  refine congrArg₂ (rows0 W c) (Fin.ext ?_) (Fin.ext ?_)
  · blk_simp [at0_5 t, row]; rfl
  · blk_simp [at0_5 t, row]; rfl

theorem out0_7 : (dat0 W c).arrAt 7 cfg0.N = fun i => stored (W c (Proc.devRef .tc main_arg1) i) := by
  refine (dat0 W c).arrAt_eq_of_covers 7 _ (by decide +kernel) fun t hf y => ?_
  blk_simp
  rw [after0_7]
  obtain ⟨r, k, rfl⟩ : ∃ (r : Fin 400) (k : Fin 10000), y = ix2 r k := ⟨y 0, y 1, eq_ix2 y⟩
  refine (k0_pay3_apply _ _).trans (congrArg stored ((blk0_1 W c t r k).trans (congrArg _ ?_)))
  blk_ext [at0_7 t, row]

theorem acc0_total (k : Fin 32) : acc0 W c 25 (ix2 0 k) = ∑ r : Fin 10000, rows0 W c r k := by
  rw [← sum_rows]
  refine running (fun n => acc0 W c n (ix2 0 k)) _ (k0_pay2_apply _) fun t => ?_
  show acc0 W c (t.val + 1) (ix2 0 k) = _
  rw [show acc0 W c (t.val + 1) = _ from acc0_succ W c t, k0_pay6_apply]
  exact congrArg (acc0 W c t.val (ix2 0 k) + ·) (Finset.sum_congr rfl fun r _ => block0 W c t r k)

/-- The last point. -/
def last0 : Fin cfg0.N := ⟨24, by decide⟩

theorem out0_6 : (dat0 W c).arrAt 6 cfg0.N = fun i => ∑ r : Fin 10000, rows0 W c r (i 1) := by
  refine (dat0 W c).arrAt_eq_of_after_last 6 last0 (by decide +kernel) _ fun j => ?_
  blk_simp
  rw [after0_6]
  obtain ⟨r, k, rfl⟩ : ∃ (r : Fin 1) (k : Fin 32), j = ix2 r k := ⟨j 0, j 1, eq_ix2 j⟩
  obtain rfl : r = 0 := Subsingleton.elim _ _
  exact acc0_total W c k

end Cert.KernelIdeal.Hand

end

end
-- ==== Proof.IdealValue1.lean ====
/- What the second call leaves in the two result arrays that the third reads, over the extended reals. -/
module

public import proofs.«01_k».proof.Proof.IdealRegion1
public import proofs.«01_k».proof.Proof.IdealPayload
public import Idealize.ShloMosaic.Lib.Pipeline.ValueKit.Geometry

@[expose] public section

set_option maxRecDepth 16384

noncomputable section

namespace Cert.KernelIdeal.Hand

open Cert.KernelIdeal.Gen Cert.Quantizer
open Idealize.ShloMosaic Idealize.ShloMosaic.TcCoe Idealize.ShloMosaic.Tactic Idealize.ShloMosaic.ValueIdx
open Idealize.ShloMosaic.Pipeline (Dat Cfg Window)

variable (W : Dev nD → Valuation τ sig (Elt Ideal)) (c : Dev nD)

/-! ## The blocks -/

theorem at1_0 : ∀ t : Fin cfg1.N, win1_0.index t = ![t.val, 0] := (by decide +kernel : ∀ t : Fin grid1.N, _)
theorem at1_1 : ∀ t : Fin cfg1.N, win1_1.index t = ![0, 0] := (by decide +kernel : ∀ t : Fin grid1.N, _)
theorem at1_2 : ∀ t : Fin cfg1.N, win1_2.index t = ![0, 0] := (by decide +kernel : ∀ t : Fin grid1.N, _)
theorem at1_3 : ∀ t : Fin cfg1.N, win1_3.index t = ![0, 0] := (by decide +kernel : ∀ t : Fin grid1.N, _)
theorem at1_4 : ∀ t : Fin cfg1.N, win1_4.index t = ![0, 0] := (by decide +kernel : ∀ t : Fin grid1.N, _)
theorem at1_6 : ∀ t : Fin cfg1.N, win1_6.index t = ![t.val, 0] := (by decide +kernel : ∀ t : Fin grid1.N, _)

theorem blk1_0 (t : Fin cfg1.N) (r : Fin 400) (l : Fin 10000) :
    iblk1 W c 0 t (ix2 r l) = W c (Proc.devRef .tc main_v3_2) (ix2 (row t r) l) := by
  blk_simp [iblk1]
  congr 1
  blk_ext [at1_0 t, row]
theorem blk1_1 (t : Fin cfg1.N) : iblk1 W c 1 t = W c (Proc.devRef .tc main_v3_0) := by
  funext y
  blk_simp [iblk1]
  congr 1
  blk_ext [at1_1 t]
theorem blk1_2 (t : Fin cfg1.N) : iblk1 W c 2 t = W c (Proc.devRef .tc main_v3_1) := by
  funext y
  blk_simp [iblk1]
  congr 1
  blk_ext [at1_2 t]
theorem blk1_3 (t : Fin cfg1.N) : iblk1 W c 3 t = W c (Proc.devRef .tc main_arg6) := by
  funext y
  blk_simp [iblk1]
  congr 1
  blk_ext [at1_3 t]
theorem blk1_4 (t : Fin cfg1.N) : iblk1 W c 4 t = W c (Proc.devRef .tc main_v1) := by
  funext y
  blk_simp [iblk1]
  congr 1
  blk_ext [at1_4 t]

/-! ## The arrays at the end -/

/-- The rows of the result the third call multiplies by. -/
def rows1 (r : Fin 10000) (k : Fin 16) : EReal :=
  second (W c (Proc.devRef .tc main_v3_2)) (W c (Proc.devRef .tc main_v3_0)) (W c (Proc.devRef .tc main_v3_1))
    (W c (Proc.devRef .tc main_v1)) (W c (Proc.devRef .tc main_arg6)) r k

theorem block1 (t : Fin cfg1.N) (r : Fin 400) (k : Fin 16) :
    k1_pay3 (F := Ideal) (iblk1 W c 0 t) (iblk1 W c 1 t) (iblk1 W c 2 t) (iblk1 W c 4 t) (iblk1 W c 3 t) (ix2 r k)
      = rows1 W c (row t r) k := by
  rw [k1_pay3_apply, rows1, second, blk1_1, blk1_2, blk1_3, blk1_4]
  refine Finset.sum_congr rfl fun j _ => ?_
  refine congrArg (fun q : Fin 10000 → BitVec 8 => max (pre q _ _ _ j) 0 * _) (funext fun l => ?_)
  exact blk1_0 W c t r l

theorem out1_6 : (dat1 W c).arrAt 6 cfg1.N = fun i => rows1 W c (i 0) (i 1) := by
  refine (dat1 W c).arrAt_eq_of_covers 6 _ (by decide +kernel) fun t hf y => ?_
  blk_simp
  rw [after1_6]
  obtain ⟨r, k, rfl⟩ : ∃ (r : Fin 400) (k : Fin 16), y = ix2 r k := ⟨y 0, y 1, eq_ix2 y⟩
  refine (block1 W c t r k).trans ?_
  refine congrArg₂ (rows1 W c) (Fin.ext ?_) (Fin.ext ?_)
  · blk_simp [at1_6 t, row]; rfl
  · blk_simp [at1_6 t, row]; rfl

theorem acc1_total (k : Fin 16) : acc1 W c 25 (ix2 0 k) = ∑ r : Fin 10000, rows1 W c r k := by
  rw [← sum_rows]
  refine running (fun n => acc1 W c n (ix2 0 k)) _ (k1_pay2_apply _) fun t => ?_
  show acc1 W c (t.val + 1) (ix2 0 k) = _
  rw [show acc1 W c (t.val + 1) = _ from acc1_succ W c t, k1_pay1_apply, k1_pay5_apply]
  exact congrArg (acc1 W c t.val (ix2 0 k) + ·) (Finset.sum_congr rfl fun r _ => block1 W c t r k)

/-- The last point. -/
def last1 : Fin cfg1.N := ⟨24, by decide⟩

theorem out1_7 : (dat1 W c).arrAt 7 cfg1.N = fun i => ∑ r : Fin 10000, rows1 W c r (i 1) := by
  refine (dat1 W c).arrAt_eq_of_after_last 7 last1 (by decide +kernel) _ fun j => ?_
  blk_simp
  rw [after1_7]
  obtain ⟨r, k, rfl⟩ : ∃ (r : Fin 1) (k : Fin 16), j = ix2 r k := ⟨j 0, j 1, eq_ix2 j⟩
  obtain rfl : r = 0 := Subsingleton.elim _ _
  exact acc1_total W c k

end Cert.KernelIdeal.Hand

end

end
-- ==== Proof.IdealValue2.lean ====
/- What the third call leaves in the result array, over the extended reals. -/
module

public import proofs.«01_k».proof.Proof.IdealRegion2
public import proofs.«01_k».proof.Proof.IdealPayload
public import Idealize.ShloMosaic.Lib.Pipeline.ValueKit.Geometry

@[expose] public section

set_option maxRecDepth 16384

noncomputable section

namespace Cert.KernelIdeal.Hand

open Cert.KernelIdeal.Gen Cert.Quantizer
open Idealize.ShloMosaic Idealize.ShloMosaic.TcCoe Idealize.ShloMosaic.Tactic Idealize.ShloMosaic.ValueIdx
open Idealize.ShloMosaic.Pipeline (Dat Cfg Window)

variable (W : Dev nD → Valuation τ sig (Elt Ideal)) (c : Dev nD)

/-! ## The blocks -/

theorem at2_0 : ∀ t : Fin cfg2.N, win2_0.index t = ![t.val, 0] := (by decide +kernel : ∀ t : Fin grid2.N, _)
theorem at2_1 : ∀ t : Fin cfg2.N, win2_1.index t = ![0, 0] := (by decide +kernel : ∀ t : Fin grid2.N, _)
theorem at2_2 : ∀ t : Fin cfg2.N, win2_2.index t = ![0, 0] := (by decide +kernel : ∀ t : Fin grid2.N, _)
theorem at2_4 : ∀ t : Fin cfg2.N, win2_4.index t = ![0, 0] := (by decide +kernel : ∀ t : Fin grid2.N, _)
theorem at2_5 : ∀ t : Fin cfg2.N, win2_5.index t = ![t.val, 0] := (by decide +kernel : ∀ t : Fin grid2.N, _)

theorem blk2_0 (t : Fin cfg2.N) (r : Fin 400) (l : Fin 10000) :
    iblk2 W c 0 t (ix2 r l) = W c (Proc.devRef .tc main_v3_2) (ix2 (row t r) l) := by
  blk_simp [iblk2]
  congr 1
  blk_ext [at2_0 t, row]
theorem blk2_1 (t : Fin cfg2.N) : iblk2 W c 1 t = W c (Proc.devRef .tc main_v4_1) := by
  funext y
  blk_simp [iblk2]
  congr 1
  blk_ext [at2_1 t]
theorem blk2_2 (t : Fin cfg2.N) : iblk2 W c 2 t = W c (Proc.devRef .tc main_v4_2) := by
  funext y
  blk_simp [iblk2]
  congr 1
  blk_ext [at2_2 t]
theorem blk2_4 (t : Fin cfg2.N) : iblk2 W c 4 t = W c (Proc.devRef .tc main_v2) := by
  funext y
  blk_simp [iblk2]
  congr 1
  blk_ext [at2_4 t]

/-! ## The array at the end -/

/-- The rows of the result. -/
def rows2 (r : Fin 10000) (k : Fin 16) : EReal :=
  third (W c (Proc.devRef .tc main_v3_2)) (W c (Proc.devRef .tc main_v4_1)) (W c (Proc.devRef .tc main_v4_2))
    (W c (Proc.devRef .tc main_v2)) r k

theorem block2 (t : Fin cfg2.N) (r : Fin 400) (k : Fin 16) :
    k2_pay2 (F := Ideal) (iblk2 W c 0 t) (iblk2 W c 1 t) (iblk2 W c 2 t) (iblk2 W c 4 t) (ix2 r k) = rows2 W c (row t r) k := by
  rw [k2_pay2_apply, rows2, third, blk2_1, blk2_2, blk2_4]
  refine congrArg (fun q : Fin 10000 → BitVec 8 => pre q _ _ _ k) (funext fun l => ?_)
  exact blk2_0 W c t r l

theorem out2_5 : (dat2 W c).arrAt 5 cfg2.N = fun i => rows2 W c (i 0) (i 1) := by
  refine (dat2 W c).arrAt_eq_of_covers 5 _ (by decide +kernel) fun t hf y => ?_
  blk_simp
  rw [after2_5]
  obtain ⟨r, k, rfl⟩ : ∃ (r : Fin 400) (k : Fin 16), y = ix2 r k := ⟨y 0, y 1, eq_ix2 y⟩
  refine (block2 W c t r k).trans ?_
  refine congrArg₂ (rows2 W c) (Fin.ext ?_) (Fin.ext ?_)
  · blk_simp [at2_5 t, row]; rfl
  · blk_simp [at2_5 t, row]; rfl

end Cert.KernelIdeal.Hand

end

end
-- ==== Proof.RefRows.lean ====
/- The reference's layers over the extended reals, element by element, and where they are real numbers. -/
module

public import proofs.«01_k».proof.Proof.Gen.ReferenceIdeal.Read
public import proofs.«01_k».proof.Proof.Quantizer
public import Idealize.ShloMosaic.Lib.ValueIdx

@[expose] public section

set_option maxRecDepth 65536

noncomputable section

namespace Cert.ReferenceIdeal.Layers

open Cert.Quantizer Cert.ReferenceIdeal.Read
open Idealize.ShloMosaic Idealize.ShloMosaic.ValueIdx

theorem zero_word : (FloatOps.ofBits (F := Ideal) .f32 0x00000000#32) = (0 : EReal) := Ideal.ofBits_zero_f32

theorem word255 : (FloatOps.ofBits (F := Ideal) .f32 0x437F0000#32) = (255 : EReal) := by
  show Ideal.ofBits .f32 0x437F0000#32 = _
  simp [Ideal.ofBits, Ideal.ieee]
  rw [← EReal.coe_mul]
  exact congrArg Real.toEReal (by norm_num : (_ : ℝ) = 255)

variable (x0 : S10000x128.Idx → EReal) (x1 : S10000x10000.Idx → EReal) (x2 : S128x32.Idx → EReal) (x3 : S32.Idx → EReal)
  (x4 : S32x32.Idx → EReal) (x5 : S32.Idx → EReal) (x6 : S32x16.Idx → EReal) (x7 : S16.Idx → EReal)

/-- Two rank-two indices with the same coordinates. -/
theorem ext2 {n0 n1 : Nat} {i : (⟨2, ![n0, n1]⟩ : Shape).Idx} {a : Fin n0} {b : Fin n1} (h0 : (i 0).val = a.val) (h1 : (i 1).val = b.val) :
    i = ix2 a b := by
  funext d
  apply Fin.ext
  match d with
  | ⟨0, _⟩ => exact h0
  | ⟨1, _⟩ => exact h1

/-- Two rank-one indices with the same coordinate. -/
theorem ext1 {n : Nat} {i : (⟨1, ![n]⟩ : Shape).Idx} {a : Fin n} (h : (i 0).val = a.val) : i = ix1 a := by
  funext d
  apply Fin.ext
  match d with
  | ⟨0, _⟩ => exact h

/-- The quantised matrix. -/
theorem quantised (i : S10000x10000.Idx) :
    val_main_v5 (F := Ideal) x1 i = Ideal.div (code (x1 i)) ((255 : ℝ) : EReal) := by
  rw [val_main_v5_apply, val_main_v3_apply, val_main_call1_v4_apply, val_main_call1_v3_apply, val_main_cst_1_apply,
    val_main_call1_v2_apply, val_main_call1_v1_apply, val_main_call1_v0_apply, val_main_cst_0_apply, val_main_v2_apply,
    val_main_v1_apply, val_main_v0_apply, val_main_cst_apply, val_main_v4_apply, val_main_cst_2_apply]
  show Ideal.div (min (FloatOps.ofBits (F := Ideal) .f32 0x437F0000#32)
    (max (FloatOps.ofBits (F := Ideal) .f32 0x00000000#32) (rnd (x1 i * FloatOps.ofBits (F := Ideal) .f32 0x437F0000#32))))
    (FloatOps.ofBits (F := Ideal) .f32 0x437F0000#32) = _
  rw [word255, zero_word]
  rfl

/-- A bias spread over the rows, of the first layer, -/
theorem bias1 (r : Fin 10000) (j : Fin 32) : val_main_v9 (F := Ideal) x3 (ix2 r j) = x3 (ix1 j) := by
  rw [val_main_v9_apply, val_main_v8_apply]
  exact congrArg x3 (ext1 rfl)
/-- the second -/
theorem bias2 (r : Fin 10000) (j : Fin 32) : val_main_v16 (F := Ideal) x5 (ix2 r j) = x5 (ix1 j) := by
  rw [val_main_v16_apply, val_main_v15_apply]
  exact congrArg x5 (ext1 rfl)
/-- and the third. -/
theorem bias3 (r : Fin 10000) (j : Fin 16) : val_main_v23 (F := Ideal) x7 (ix2 r j) = x7 (ix1 j) := by
  rw [val_main_v23_apply, val_main_v22_apply]
  exact congrArg x7 (ext1 rfl)

theorem input1 (l : Fin 10000) (j : Fin 32) :
    val_main_v6 (F := Ideal) x0 x2 (ix2 l j) = ∑ i : Fin 128, x0 (ix2 l i) * x2 (ix2 i j) := by
  rw [val_main_v6_apply]
  refine Finset.sum_congr rfl fun i _ => ?_
  exact congrArg₂ (fun p q : EReal => p * q) (congrArg x0 (ext2 rfl rfl)) (congrArg x2 (ext2 rfl rfl))

/-- The first layer's output. -/
theorem output1 (r : Fin 10000) (j : Fin 32) :
    val_main_v12 (F := Ideal) x0 x1 x2 x3 (ix2 r j)
      = max ((∑ l : Fin 10000, x1 (ix2 r l) * (∑ i : Fin 128, x0 (ix2 l i) * x2 (ix2 i j))) + x3 (ix1 j)) 0 := by
  rw [val_main_v12_apply, val_main_v10_apply, bias1, val_main_v11_apply, val_main_cst_3_apply, zero_word, val_main_v7_apply]
  refine congrArg (fun z : EReal => max (z + _) 0) (Finset.sum_congr rfl fun l _ => ?_)
  exact congrArg₂ (fun p q : EReal => p * q) (congrArg x1 (ext2 rfl rfl))
    ((congrArg (val_main_v6 (F := Ideal) x0 x2) (ext2 rfl rfl)).trans (input1 x0 x2 l j))

/-- The second layer's input. -/
theorem input2 (r : Fin 10000) (k : Fin 32) :
    val_main_v13 (F := Ideal) x0 x1 x2 x3 x4 (ix2 r k)
      = ∑ j : Fin 32, max ((∑ l : Fin 10000, x1 (ix2 r l) * (∑ i : Fin 128, x0 (ix2 l i) * x2 (ix2 i j))) + x3 (ix1 j)) 0
          * x4 (ix2 j k) := by
  rw [val_main_v13_apply]
  refine Finset.sum_congr rfl fun j _ => ?_
  exact congrArg₂ (fun p q : EReal => p * q)
    ((congrArg (val_main_v12 (F := Ideal) x0 x1 x2 x3) (ext2 rfl rfl)).trans (output1 x0 x1 x2 x3 r j)) (congrArg x4 (ext2 rfl rfl))

/-- The second layer's output. -/
theorem output2 (r : Fin 10000) (j : Fin 32) :
    val_main_v19 (F := Ideal) x0 x1 x2 x3 x4 x5 (ix2 r j)
      = max ((∑ l : Fin 10000, Ideal.div (code (x1 (ix2 r l))) ((255 : ℝ) : EReal) * val_main_v13 (F := Ideal) x0 x1 x2 x3 x4 (ix2 l j))
          + x5 (ix1 j)) 0 := by
  rw [val_main_v19_apply, val_main_v17_apply, bias2, val_main_v18_apply, val_main_cst_4_apply, zero_word, val_main_v14_apply]
  refine congrArg (fun z : EReal => max (z + _) 0) (Finset.sum_congr rfl fun l _ => ?_)
  exact congrArg₂ (fun p q : EReal => p * q) ((quantised x1 _).trans (congrArg (fun i => Ideal.div (code (x1 i)) _) (ext2 rfl rfl)))
    (congrArg (val_main_v13 (F := Ideal) x0 x1 x2 x3 x4) (ext2 rfl rfl))

/-- The third layer's input. -/
theorem input3 (r : Fin 10000) (k : Fin 16) :
    val_main_v20 (F := Ideal) x0 x1 x2 x3 x4 x5 x6 (ix2 r k)
      = ∑ j : Fin 32, max ((∑ l : Fin 10000, Ideal.div (code (x1 (ix2 r l))) ((255 : ℝ) : EReal)
          * val_main_v13 (F := Ideal) x0 x1 x2 x3 x4 (ix2 l j)) + x5 (ix1 j)) 0 * x6 (ix2 j k) := by
  rw [val_main_v20_apply]
  refine Finset.sum_congr rfl fun j _ => ?_
  exact congrArg₂ (fun p q : EReal => p * q)
    ((congrArg (val_main_v19 (F := Ideal) x0 x1 x2 x3 x4 x5) (ext2 rfl rfl)).trans (output2 x0 x1 x2 x3 x4 x5 r j))
    (congrArg x6 (ext2 rfl rfl))

/-- The result. -/
theorem output3 (r : Fin 10000) (k : Fin 16) :
    val_main_v24 (F := Ideal) x0 x1 x2 x3 x4 x5 x6 x7 (ix2 r k)
      = (∑ l : Fin 10000, Ideal.div (code (x1 (ix2 r l))) ((255 : ℝ) : EReal) * val_main_v20 (F := Ideal) x0 x1 x2 x3 x4 x5 x6 (ix2 l k))
          + x7 (ix1 k) := by
  rw [val_main_v24_apply, bias3, val_main_v21_apply]
  refine congrArg (fun z : EReal => z + _) (Finset.sum_congr rfl fun l _ => ?_)
  exact congrArg₂ (fun p q : EReal => p * q) ((quantised x1 _).trans (congrArg (fun i => Ideal.div (code (x1 i)) _) (ext2 rfl rfl)))
    (congrArg (val_main_v20 (F := Ideal) x0 x1 x2 x3 x4 x5 x6) (ext2 rfl rfl))

/-! ## Real arguments -/

variable (h0 : ∀ i, Real' (x0 i)) (h1 : ∀ i, Real' (x1 i)) (h2 : ∀ i, Real' (x2 i)) (h3 : ∀ i, Real' (x3 i))
  (h4 : ∀ i, Real' (x4 i)) (h5 : ∀ i, Real' (x5 i)) (h6 : ∀ i, Real' (x6 i))

include h0 h1 h2 h3 h4 in
/-- From real arguments the second layer's input is real, -/
theorem real2 (r : Fin 10000) (k : Fin 32) : Real' (val_main_v13 (F := Ideal) x0 x1 x2 x3 x4 (ix2 r k)) := by
  rw [input2]
  exact Real'.sum _ fun j => Real'.mul (Real'.max_zero (Real'.add (Real'.sum _ fun l => (h1 _).mul
    (Real'.sum _ fun i => (h0 _).mul (h2 _))) (h3 _))) (h4 _)

include h0 h1 h2 h3 h4 h5 h6 in
/-- and so is the third's. -/
theorem real3 (r : Fin 10000) (k : Fin 16) : Real' (val_main_v20 (F := Ideal) x0 x1 x2 x3 x4 x5 x6 (ix2 r k)) := by
  rw [input3]
  exact Real'.sum _ fun j => Real'.mul (Real'.max_zero (Real'.add (Real'.sum _ fun l => ((Real'.code (x1 (ix2 r l))).div255).mul
    (real2 x0 x1 x2 x3 x4 h0 h1 h2 h3 h4 l j)) (h5 _))) (h6 _)

end Cert.ReferenceIdeal.Layers

end

end
-- ==== Proof.IdealWhole.lean ====
/- The three calls together: the result array after a run is the reference's result of the same arguments, wherever the
   features, the adjacency, the weights and the first two biases are real numbers. -/
module

public import proofs.«01_k».proof.Proof.IdealRun
public import proofs.«01_k».proof.Proof.IdealValue0
public import proofs.«01_k».proof.Proof.IdealValue1
public import proofs.«01_k».proof.Proof.IdealValue2
public import proofs.«01_k».proof.Proof.RefRows

@[expose] public section

set_option maxRecDepth 16384

noncomputable section

namespace Cert.KernelIdeal.Hand

open Cert.KernelIdeal.Gen Cert.Quantizer Cert.ReferenceIdeal.Read Cert.ReferenceIdeal.Layers
open Idealize.ShloMosaic Idealize.ShloMosaic.TcCoe Idealize.ShloMosaic.Tactic Idealize.ShloMosaic.ValueIdx
open Idealize.ShloMosaic.StableHlo

variable (m : (ℓ : Loc nD τ sig) → Buf (Elt Ideal) ℓ) (c : Dev nD)

/-! ## The arguments, as arrays of extended reals -/

def features : S10000x128.Idx → EReal := m ((c : Thread nD τ).loc main_arg0)
def adjacency : S10000x10000.Idx → EReal := m ((c : Thread nD τ).loc main_arg1)
def weights1 : S128x32.Idx → EReal := m ((c : Thread nD τ).loc main_arg2)
def biases1 : S32.Idx → EReal := m ((c : Thread nD τ).loc main_arg3)
def weights2 : S32x32.Idx → EReal := m ((c : Thread nD τ).loc main_arg4)
def biases2 : S32.Idx → EReal := m ((c : Thread nD τ).loc main_arg5)
def weights3 : S32x16.Idx → EReal := m ((c : Thread nD τ).loc main_arg6)
def biases3 : S16.Idx → EReal := m ((c : Thread nD τ).loc main_arg7)

/-- The reference's input of the second layer, of these arguments, -/
def input2Of : S10000x32.Idx → EReal :=
  val_main_v13 (F := Ideal) (features m c) (adjacency m c) (weights1 m c) (biases1 m c) (weights2 m c)
/-- its input of the third -/
def input3Of : S10000x16.Idx → EReal :=
  val_main_v20 (F := Ideal) (features m c) (adjacency m c) (weights1 m c) (biases1 m c) (weights2 m c) (biases2 m c) (weights3 m c)
/-- and its result. -/
def resultOf : S10000x16.Idx → EReal :=
  val_main_v24 (F := Ideal) (features m c) (adjacency m c) (weights1 m c) (biases1 m c) (weights2 m c) (biases2 m c) (weights3 m c)
    (biases3 m c)

/-! ## What the calls are entered with -/

/-- An argument is as launched. -/
theorem W1_arg (r : Ref sig .tc) (h : r ∉ hostOps0_W) : W1 m c (Proc.devRef .tc r) = m ((c : Thread nD τ).loc r) := V1_of m c r h

/-- The first layer's biases are a row of the launched ones, -/
theorem W1_bias1 (j : Fin 32) : (W1 m c (Proc.devRef .tc main_v0) : S1x32.Idx → EReal) (ix2 0 j) = biases1 m c (ix1 j) := by
  have e : W1 m c (Proc.devRef .tc main_v0) = shapeCast S1x32 (m ((c : Thread nD τ).loc main_arg3)) shapeCasts_S32_S1x32 := by
    unfold W1 V1 hostOps0
    after_results
    rfl
  rw [e]
  exact (shapeCast_addUnit_apply ![32] (biases1 m c) shapeCasts_S32_S1x32 (ix2 0 j)).trans (congrArg (biases1 m c) (ext1 rfl))

/-- so are the second's -/
theorem W1_bias2 (j : Fin 32) : (W1 m c (Proc.devRef .tc main_v1) : S1x32.Idx → EReal) (ix2 0 j) = biases2 m c (ix1 j) := by
  have e : W1 m c (Proc.devRef .tc main_v1) = shapeCast S1x32 (m ((c : Thread nD τ).loc main_arg5)) shapeCasts_S32_S1x32 := by
    unfold W1 V1 hostOps0
    after_results
    rfl
  rw [e]
  exact (shapeCast_addUnit_apply ![32] (biases2 m c) shapeCasts_S32_S1x32 (ix2 0 j)).trans (congrArg (biases2 m c) (ext1 rfl))

/-- and the third's. -/
theorem W1_bias3 (j : Fin 16) : (W1 m c (Proc.devRef .tc main_v2) : S1x16.Idx → EReal) (ix2 0 j) = biases3 m c (ix1 j) := by
  have e : W1 m c (Proc.devRef .tc main_v2) = shapeCast S1x16 (m ((c : Thread nD τ).loc main_arg7)) shapeCasts_S16_S1x16 := by
    unfold W1 V1 hostOps0
    after_results
    rfl
  rw [e]
  exact (shapeCast_addUnit_apply ![16] (biases3 m c) shapeCasts_S16_S1x16 (ix2 0 j)).trans (congrArg (biases3 m c) (ext1 rfl))

/-! ## The first call -/

/-- The first call's rows are the reference's input of the second layer. -/
theorem rows0_eq (r : Fin 10000) (k : Fin 32) : rows0 (W1 m) c r k = input2Of m c (ix2 r k) := by
  unfold rows0 input2Of
  rw [input2, W1_arg m c main_arg0 (by decide), W1_arg m c main_arg1 (by decide), W1_arg m c main_arg2 (by decide),
    W1_arg m c main_arg4 (by decide)]
  refine Finset.sum_congr rfl fun j _ => ?_
  exact congrArg (fun z : EReal => max ((∑ l : Fin 10000, adjacency m c (ix2 r l)
    * (∑ i : Fin 128, features m c (ix2 l i) * weights1 m c (ix2 i j))) + z) 0 * weights2 m c (ix2 j k)) (W1_bias1 m c j)

theorem W2_codes : (W2 m c (Proc.devRef .tc main_v3_2) : S10000x10000.Idx → BitVec 8) = fun i => stored (adjacency m c i) := by
  refine ((W2_arr m c 7).trans (out0_7 (W1 m) c)).trans ?_
  rw [W1_arg m c main_arg1 (by decide)]
  rfl

theorem W2_rows (r : Fin 10000) (k : Fin 32) :
    (W2 m c (Proc.devRef .tc main_v3_0) : S10000x32.Idx → EReal) (ix2 r k) = input2Of m c (ix2 r k) :=
  (congrFun ((W2_arr m c 5).trans (out0_5 (W1 m) c)) (ix2 r k)).trans (rows0_eq m c r k)

theorem W2_sums (k : Fin 32) :
    (W2 m c (Proc.devRef .tc main_v3_1) : S1x32.Idx → EReal) (ix2 0 k) = ∑ r : Fin 10000, input2Of m c (ix2 r k) :=
  (congrFun ((W2_arr m c 6).trans (out0_6 (W1 m) c)) (ix2 0 k)).trans
    (show (∑ r : Fin 10000, rows0 (W1 m) c r k : EReal) = _ from Finset.sum_congr rfl fun r _ => rows0_eq m c r k)

/-! ## The second and third -/

/-- A layer over the stored bytes, where the layer's input `t` is real: the reference's layer over the quantised adjacency. -/
theorem pre_eq {n : ℕ} (a : Fin 10000 → EReal) (q : Fin 10000 → BitVec 8) (s : Fin 10000 → Fin n → EReal) (cs b : Fin n → EReal) (j : Fin n)
    (t : Fin 10000 → EReal) (b' : EReal) (hq : ∀ l, q l = stored (a l)) (hs : ∀ l, s l j = t l) (hc : cs j = ∑ l, t l) (hb : b j = b')
    (ht : ∀ l, Real' (t l)) : pre q s cs b j = (∑ l, Ideal.div (code (a l)) ((255 : ℝ) : EReal) * t l) + b' := by
  unfold pre
  simp only [hq, hs, hc, hb]
  exact layer a t b' ht

variable (h0 : ∀ i, Real' (features m c i)) (h1 : ∀ i, Real' (adjacency m c i)) (h2 : ∀ i, Real' (weights1 m c i))
  (h3 : ∀ i, Real' (biases1 m c i)) (h4 : ∀ i, Real' (weights2 m c i)) (h5 : ∀ i, Real' (biases2 m c i))
  (h6 : ∀ i, Real' (weights3 m c i))

include h0 h1 h2 h3 h4 in
/-- The second call's rows are the reference's input of the third layer. -/
theorem rows1_eq (r : Fin 10000) (k : Fin 16) : rows1 (W2 m) c r k = input3Of m c (ix2 r k) := by
  unfold rows1 input3Of
  rw [input3, W2_of m c main_v1 (by decide), W2_of m c main_arg6 (by decide), W1_arg m c main_arg6 (by decide)]
  refine Finset.sum_congr rfl fun j _ => ?_
  exact congrArg (fun z : EReal => max z 0 * weights3 m c (ix2 j k))
    (pre_eq (fun l => adjacency m c (ix2 r l)) _ _ _ _ j (fun l => input2Of m c (ix2 l j)) (biases2 m c (ix1 j))
      (fun l => congrFun (W2_codes m c) (ix2 r l)) (fun l => W2_rows m c l j) (W2_sums m c j) (W1_bias2 m c j)
      (fun l => real2 _ _ _ _ _ h0 h1 h2 h3 h4 l j))

theorem W3_codes : (W3 m c (Proc.devRef .tc main_v3_2) : S10000x10000.Idx → BitVec 8) = fun i => stored (adjacency m c i) :=
  (W3_of m c main_v3_2 (by decide)).trans (W2_codes m c)

theorem W3_bias3 (j : Fin 16) : (W3 m c (Proc.devRef .tc main_v2) : S1x16.Idx → EReal) (ix2 0 j) = biases3 m c (ix1 j) :=
  (congrFun ((W3_of m c main_v2 (by decide)).trans (W2_of m c main_v2 (by decide))) (ix2 0 j)).trans (W1_bias3 m c j)

include h0 h1 h2 h3 h4 in
theorem W3_rows (r : Fin 10000) (k : Fin 16) :
    (W3 m c (Proc.devRef .tc main_v4_1) : S10000x16.Idx → EReal) (ix2 r k) = input3Of m c (ix2 r k) :=
  (congrFun ((W3_arr m c 6).trans (out1_6 (W2 m) c)) (ix2 r k)).trans (rows1_eq m c h0 h1 h2 h3 h4 r k)

include h0 h1 h2 h3 h4 in
theorem W3_sums (k : Fin 16) :
    (W3 m c (Proc.devRef .tc main_v4_2) : S1x16.Idx → EReal) (ix2 0 k) = ∑ r : Fin 10000, input3Of m c (ix2 r k) :=
  (congrFun ((W3_arr m c 7).trans (out1_7 (W2 m) c)) (ix2 0 k)).trans
    (show (∑ r : Fin 10000, rows1 (W2 m) c r k : EReal) = _ from Finset.sum_congr rfl fun r _ => rows1_eq m c h0 h1 h2 h3 h4 r k)

include h0 h1 h2 h3 h4 h5 h6 in
/-- The third call's rows are the reference's result. -/
theorem rows2_eq (r : Fin 10000) (k : Fin 16) : rows2 (W3 m) c r k = resultOf m c (ix2 r k) := by
  unfold rows2 resultOf
  rw [output3]
  exact pre_eq (fun l => adjacency m c (ix2 r l)) _ _ _ _ k (fun l => input3Of m c (ix2 l k)) (biases3 m c (ix1 k))
    (fun l => congrFun (W3_codes m c) (ix2 r l)) (fun l => W3_rows m c h0 h1 h2 h3 h4 l k) (W3_sums m c h0 h1 h2 h3 h4 k)
    (W3_bias3 m c k) (fun l => real3 _ _ _ _ _ _ _ h0 h1 h2 h3 h4 h5 h6 l k)

include h0 h1 h2 h3 h4 h5 h6 in
/-- The result array at the end of a run is the reference's result. -/
theorem W4_result : (W4 m c (Proc.devRef .tc main_v5_0) : S10000x16.Idx → EReal) = resultOf m c := by
  refine ((W4_arr m c 5).trans (out2_5 (W3 m) c)).trans ?_
  funext i
  obtain ⟨r, k, rfl⟩ : ∃ (r : Fin 10000) (k : Fin 16), i = ix2 r k := ⟨i 0, i 1, eq_ix2 i⟩
  exact rows2_eq m c h0 h1 h2 h3 h4 h5 h6 r k

end Cert.KernelIdeal.Hand

end

end
-- ==== Proof.Algebraic.lean ====
/- The value claim: from equal arguments, finite where the precondition says so, the idealized kernel and the idealized
   reference end with the same result. -/
module

public import proofs.«01_k».proof.Defs
public import proofs.«01_k».proof.Proof.Frames
public import proofs.«01_k».proof.Proof.FiniteArgs
public import proofs.«01_k».proof.Proof.IdealWhole

@[expose] public section

noncomputable section

namespace Cert.Proof

open Idealize.ShloMosaic Idealize.SL.Sem

theorem values : algebraic_KernelIdeal_ReferenceIdeal_pre_finite_weights (hKernelIdeal := Cert.KernelIdeal.Gen.facts)
    (hReferenceIdeal := Cert.ReferenceIdeal.Gen.facts) (hPre_finite_weights := Cert.Pre_finite_weights.Gen.facts) := by
  intro m g m' g' hp ha
  refine ⟨fun c => Cert.KernelIdeal.Hand.resultOf m c, ?_, ?_⟩
  · refine (θ_run _ _ _).mono (fun r h c => ⟨?_,
      Cert.KernelIdeal.Hand.kept m (h.1 c) Cert.KernelIdeal.main_arg0 (by decide) (by decide),
      Cert.KernelIdeal.Hand.kept m (h.1 c) Cert.KernelIdeal.main_arg1 (by decide) (by decide),
      Cert.KernelIdeal.Hand.kept m (h.1 c) Cert.KernelIdeal.main_arg2 (by decide) (by decide),
      Cert.KernelIdeal.Hand.kept m (h.1 c) Cert.KernelIdeal.main_arg3 (by decide) (by decide),
      Cert.KernelIdeal.Hand.kept m (h.1 c) Cert.KernelIdeal.main_arg4 (by decide) (by decide),
      Cert.KernelIdeal.Hand.kept m (h.1 c) Cert.KernelIdeal.main_arg5 (by decide) (by decide),
      Cert.KernelIdeal.Hand.kept m (h.1 c) Cert.KernelIdeal.main_arg6 (by decide) (by decide),
      Cert.KernelIdeal.Hand.kept m (h.1 c) Cert.KernelIdeal.main_arg7 (by decide) (by decide)⟩)
      (Cert.KernelIdeal.Hand.run m g)
    obtain ⟨h0, h1, h2, h3, h4, h5, h6⟩ := Cert.Pre_finite_weights.Meaning.real_args (fun j => congrFun (hp c) j)
    exact (Cert.KernelIdeal.Hand.read_end m (h.1 c) Cert.KernelIdeal.main_v5_0 (by decide)).trans
      (Cert.KernelIdeal.Hand.W4_result m c h0 h1 h2 h3 h4 h5 h6)
  · refine (θ_run _ _ _).mono (fun r h c => ⟨(h c).1.trans ?_, (h c).2⟩) (Cert.ReferenceIdeal.Value.run (F := Ideal) m' g')
    obtain ⟨a0, a1, a2, a3, a4, a5, a6, a7⟩ := ha c
    rw [a0, a1, a2, a3, a4, a5, a6, a7]
    exact Cert.ReferenceIdeal.Read.val_main_v24_eq (F := Ideal) _ _ _ _ _ _ _ _

end Cert.Proof

end

end
-- ==== Proof.lean ====
/- The claim, assembled: every program runs to its end with its arguments unchanged and its semaphores at zero, the two
   constants that the idealized kernel names are the printed ones, and over the extended reals the kernel's result is the
   reference's. -/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_finite_weights

@[expose] public section

noncomputable section

namespace Cert.Proof

theorem claim : Cert.Claim :=
  ⟨Cert.Kernel.Gen.facts, Cert.KernelIdeal.Gen.facts, Cert.ReferenceIdeal.Gen.facts, Cert.Pre_finite_weights.Gen.facts,
    frame_bits, frame_ideal, frame_ideal_finite, frame_reference, frame_reference_finite, constants, values⟩

end Cert.Proof

end

end
